-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S2x1024x1024 : Shape := ⟨3, ![2, 1024, 1024]⟩
abbrev S512x1024 : Shape := ⟨2, ![512, 1024]⟩
abbrev S1024x512 : Shape := ⟨2, ![1024, 512]⟩
abbrev S512x1x4 : Shape := ⟨3, ![512, 1, 4]⟩
abbrev S512 : Shape := ⟨1, ![512]⟩
abbrev S8x1024 : Shape := ⟨2, ![8, 1024]⟩
abbrev S8 : Shape := ⟨1, ![8]⟩
abbrev S2 : Shape := ⟨1, ![2]⟩
abbrev S8x64 : Shape := ⟨2, ![8, 64]⟩
abbrev S_ : Shape := ⟨0, ![]⟩

class Facts : Prop where
  bcast_S_S2x1024x1024 : S_.BroadcastsInDim S2x1024x1024 (![] : Fin 0 → Fin S2x1024x1024.rank)
  bcast_S_S2 : S_.BroadcastsInDim S2 (![] : Fin 0 → Fin S2.rank)
  bcast_S2_S2x1024x1024_0 : S2.BroadcastsInDim S2x1024x1024 (![0] : Fin 1 → Fin S2x1024x1024.rank)
  bcast_S_S512x1024 : S_.BroadcastsInDim S512x1024 (![] : Fin 0 → Fin S512x1024.rank)
  transposes_S1024x512_S512x1024_1_0 : S1024x512.Transposes [1, 0] S512x1024
  bcast_S_S512 : S_.BroadcastsInDim S512 (![] : Fin 0 → Fin S512.rank)
  bcast_S512_S512x1024_0 : S512.BroadcastsInDim S512x1024 (![0] : Fin 1 → Fin S512x1024.rank)
  bcast_S_S512x1x4 : S_.BroadcastsInDim S512x1x4 (![] : Fin 0 → Fin S512x1x4.rank)
  bcast_S_S8x1024 : S_.BroadcastsInDim S8x1024 (![] : Fin 0 → Fin S8x1024.rank)
  bcast_S_S8 : S_.BroadcastsInDim S8 (![] : Fin 0 → Fin S8.rank)
  bcast_S8_S8x1024_0 : S8.BroadcastsInDim S8x1024 (![0] : Fin 1 → Fin S8x1024.rank)
  bcast_S_S8x64 : S_.BroadcastsInDim S8x64 (![] : Fin 0 → Fin S8x64.rank)

variable [Facts]

def fn_part4 {F : FTy → Type} [FloatOps F] (main_arg16 : FVec F S8 .f32) (main_arg18 : FVec F S8 .f32) (main_arg20 : FVec F S8x64 .f32) (main_v7 : IVec S2x1024x1024 1) (main_v38 : IVec S512x1024 1) (main_v49 : IVec S512x1x4 1) (main_v73 : IVec S8x1024 1) (main_v76 : IVec S8 1) : IVec S2x1024x1024 1 × IVec S512x1024 1 × IVec S512x1x4 1 × IVec S8x1024 1 × IVec S8x64 1 :=
  let main_v77 : IVec S8x1024 1 := broadcastInDim S8x1024 ![0] bcast_S8_S8x1024_0 main_v76
  let main_v78 : IVec S8x1024 1 := andi main_v73 main_v77
  let main_v79 : FVec F S8 .f32 := Host.absf main_arg16
  let main_cst_18 : FVec F S_ .f32 := constant S_ .f32 0x7F800000#32
  let main_v80 : FVec F S8 .f32 := broadcastInDim S8 ![] bcast_S_S8 main_cst_18
  let main_v81 : IVec S8 1 := cmpf .olt main_v79 main_v80
  let main_v82 : IVec S8x1024 1 := broadcastInDim S8x1024 ![0] bcast_S8_S8x1024_0 main_v81
  let main_v83 : IVec S8x1024 1 := andi main_v78 main_v82
  let main_v84 : FVec F S8 .f32 := Host.absf main_arg18
  let main_cst_19 : FVec F S_ .f32 := constant S_ .f32 0x7F800000#32
  let main_v85 : FVec F S8 .f32 := broadcastInDim S8 ![] bcast_S_S8 main_cst_19
  let main_v86 : IVec S8 1 := cmpf .olt main_v84 main_v85
  let main_v87 : IVec S8x1024 1 := broadcastInDim S8x1024 ![0] bcast_S8_S8x1024_0 main_v86
  let main_v88 : IVec S8x1024 1 := andi main_v83 main_v87
  let main_v89 : FVec F S8x64 .f32 := Host.absf main_arg20
  let main_cst_20 : FVec F S_ .f32 := constant S_ .f32 0x7F800000#32
  let main_v90 : FVec F S8x64 .f32 := broadcastInDim S8x64 ![] bcast_S_S8x64 main_cst_20
  let main_v91 : IVec S8x64 1 := cmpf .olt main_v89 main_v90
  (main_v7, main_v38, main_v49, main_v88, main_v91)

def fn_part3 {F : FTy → Type} [FloatOps F] (main_arg12 : FVec F S8 .f32) (main_arg14 : FVec F S8 .f32) (main_arg16 : FVec F S8 .f32) (main_arg17 : FVec F S8x1024 .f32) (main_arg18 : FVec F S8 .f32) (main_arg20 : FVec F S8x64 .f32) (main_arg21 : FVec F S8x1024 .f32) (main_v7 : IVec S2x1024x1024 1) (main_v38 : IVec S512x1024 1) (main_v49 : IVec S512x1x4 1) (main_v56 : IVec S8x1024 1) (main_v57 : FVec F S8x1024 .f32) : IVec S2x1024x1024 1 × IVec S512x1024 1 × IVec S512x1x4 1 × IVec S8x1024 1 × IVec S8x64 1 :=
  let main_cst_13 : FVec F S_ .f32 := constant S_ .f32 0x7F800000#32
  let main_v58 : FVec F S8x1024 .f32 := broadcastInDim S8x1024 ![] bcast_S_S8x1024 main_cst_13
  let main_v59 : IVec S8x1024 1 := cmpf .olt main_v57 main_v58
  let main_v60 : IVec S8x1024 1 := andi main_v56 main_v59
  let main_v61 : FVec F S8x1024 .f32 := Host.absf main_arg17
  let main_cst_14 : FVec F S_ .f32 := constant S_ .f32 0x7F800000#32
  let main_v62 : FVec F S8x1024 .f32 := broadcastInDim S8x1024 ![] bcast_S_S8x1024 main_cst_14
  let main_v63 : IVec S8x1024 1 := cmpf .olt main_v61 main_v62
  let main_v64 : IVec S8x1024 1 := andi main_v60 main_v63
  let main_v65 : FVec F S8x1024 .f32 := Host.absf main_arg21
  let main_cst_15 : FVec F S_ .f32 := constant S_ .f32 0x7F800000#32
  let main_v66 : FVec F S8x1024 .f32 := broadcastInDim S8x1024 ![] bcast_S_S8x1024 main_cst_15
  let main_v67 : IVec S8x1024 1 := cmpf .olt main_v65 main_v66
  let main_v68 : IVec S8x1024 1 := andi main_v64 main_v67
  let main_v69 : FVec F S8 .f32 := Host.absf main_arg12
  let main_cst_16 : FVec F S_ .f32 := constant S_ .f32 0x7F800000#32
  let main_v70 : FVec F S8 .f32 := broadcastInDim S8 ![] bcast_S_S8 main_cst_16
  let main_v71 : IVec S8 1 := cmpf .olt main_v69 main_v70
  let main_v72 : IVec S8x1024 1 := broadcastInDim S8x1024 ![0] bcast_S8_S8x1024_0 main_v71
  let main_v73 : IVec S8x1024 1 := andi main_v68 main_v72
  let main_v74 : FVec F S8 .f32 := Host.absf main_arg14
  let main_cst_17 : FVec F S_ .f32 := constant S_ .f32 0x7F800000#32
  let main_v75 : FVec F S8 .f32 := broadcastInDim S8 ![] bcast_S_S8 main_cst_17
  let main_v76 : IVec S8 1 := cmpf .olt main_v74 main_v75
  fn_part4 (F := F) main_arg16 main_arg18 main_arg20 main_v7 main_v38 main_v49 main_v73 main_v76

def fn_part2 {F : FTy → Type} [FloatOps F] (main_arg5 : FVec F S512x1x4 .f32) (main_arg7 : FVec F S512x1x4 .f32) (main_arg9 : FVec F S512x1x4 .f32) (main_arg11 : FVec F S8x1024 .f32) (main_arg12 : FVec F S8 .f32) (main_arg13 : FVec F S8x1024 .f32) (main_arg14 : FVec F S8 .f32) (main_arg15 : FVec F S8x1024 .f32) (main_arg16 : FVec F S8 .f32) (main_arg17 : FVec F S8x1024 .f32) (main_arg18 : FVec F S8 .f32) (main_arg20 : FVec F S8x64 .f32) (main_arg21 : FVec F S8x1024 .f32) (main_v7 : IVec S2x1024x1024 1) (main_v38 : IVec S512x1024 1) : IVec S2x1024x1024 1 × IVec S512x1024 1 × IVec S512x1x4 1 × IVec S8x1024 1 × IVec S8x64 1 :=
  let main_v39 : FVec F S512x1x4 .f32 := Host.absf main_arg5
  let main_cst_8 : FVec F S_ .f32 := constant S_ .f32 0x7F800000#32
  let main_v40 : FVec F S512x1x4 .f32 := broadcastInDim S512x1x4 ![] bcast_S_S512x1x4 main_cst_8
  let main_v41 : IVec S512x1x4 1 := cmpf .olt main_v39 main_v40
  let main_v42 : FVec F S512x1x4 .f32 := Host.absf main_arg7
  let main_cst_9 : FVec F S_ .f32 := constant S_ .f32 0x7F800000#32
  let main_v43 : FVec F S512x1x4 .f32 := broadcastInDim S512x1x4 ![] bcast_S_S512x1x4 main_cst_9
  let main_v44 : IVec S512x1x4 1 := cmpf .olt main_v42 main_v43
  let main_v45 : IVec S512x1x4 1 := andi main_v41 main_v44
  let main_v46 : FVec F S512x1x4 .f32 := Host.absf main_arg9
  let main_cst_10 : FVec F S_ .f32 := constant S_ .f32 0x7F800000#32
  let main_v47 : FVec F S512x1x4 .f32 := broadcastInDim S512x1x4 ![] bcast_S_S512x1x4 main_cst_10
  let main_v48 : IVec S512x1x4 1 := cmpf .olt main_v46 main_v47
  let main_v49 : IVec S512x1x4 1 := andi main_v45 main_v48
  let main_v50 : FVec F S8x1024 .f32 := Host.absf main_arg11
  let main_cst_11 : FVec F S_ .f32 := constant S_ .f32 0x7F800000#32
  let main_v51 : FVec F S8x1024 .f32 := broadcastInDim S8x1024 ![] bcast_S_S8x1024 main_cst_11
  let main_v52 : IVec S8x1024 1 := cmpf .olt main_v50 main_v51
  let main_v53 : FVec F S8x1024 .f32 := Host.absf main_arg13
  let main_cst_12 : FVec F S_ .f32 := constant S_ .f32 0x7F800000#32
  let main_v54 : FVec F S8x1024 .f32 := broadcastInDim S8x1024 ![] bcast_S_S8x1024 main_cst_12
  let main_v55 : IVec S8x1024 1 := cmpf .olt main_v53 main_v54
  let main_v56 : IVec S8x1024 1 := andi main_v52 main_v55
  let main_v57 : FVec F S8x1024 .f32 := Host.absf main_arg15
  fn_part3 (F := F) main_arg12 main_arg14 main_arg16 main_arg17 main_arg18 main_arg20 main_arg21 main_v7 main_v38 main_v49 main_v56 main_v57

def fn_part1 {F : FTy → Type} [FloatOps F] (main_arg4 : FVec F S1024x512 .f32) (main_arg5 : FVec F S512x1x4 .f32) (main_arg6 : FVec F S512 .f32) (main_arg7 : FVec F S512x1x4 .f32) (main_arg8 : FVec F S512 .f32) (main_arg9 : FVec F S512x1x4 .f32) (main_arg10 : FVec F S512 .f32) (main_arg11 : FVec F S8x1024 .f32) (main_arg12 : FVec F S8 .f32) (main_arg13 : FVec F S8x1024 .f32) (main_arg14 : FVec F S8 .f32) (main_arg15 : FVec F S8x1024 .f32) (main_arg16 : FVec F S8 .f32) (main_arg17 : FVec F S8x1024 .f32) (main_arg18 : FVec F S8 .f32) (main_arg20 : FVec F S8x64 .f32) (main_arg21 : FVec F S8x1024 .f32) (main_v7 : IVec S2x1024x1024 1) (main_v18 : IVec S512x1024 1) : IVec S2x1024x1024 1 × IVec S512x1024 1 × IVec S512x1x4 1 × IVec S8x1024 1 × IVec S8x64 1 :=
  let main_v19 : FVec F S512x1024 .f32 := (transpose S512x1024 [1, 0] · transposes_S1024x512_S512x1024_1_0) main_arg4
  let main_v20 : FVec F S512x1024 .f32 := Host.absf main_v19
  let main_cst_4 : FVec F S_ .f32 := constant S_ .f32 0x7F800000#32
  let main_v21 : FVec F S512x1024 .f32 := broadcastInDim S512x1024 ![] bcast_S_S512x1024 main_cst_4
  let main_v22 : IVec S512x1024 1 := cmpf .olt main_v20 main_v21
  let main_v23 : IVec S512x1024 1 := andi main_v18 main_v22
  let main_v24 : FVec F S512 .f32 := Host.absf main_arg6
  let main_cst_5 : FVec F S_ .f32 := constant S_ .f32 0x7F800000#32
  let main_v25 : FVec F S512 .f32 := broadcastInDim S512 ![] bcast_S_S512 main_cst_5
  let main_v26 : IVec S512 1 := cmpf .olt main_v24 main_v25
  let main_v27 : IVec S512x1024 1 := broadcastInDim S512x1024 ![0] bcast_S512_S512x1024_0 main_v26
  let main_v28 : IVec S512x1024 1 := andi main_v23 main_v27
  let main_v29 : FVec F S512 .f32 := Host.absf main_arg8
  let main_cst_6 : FVec F S_ .f32 := constant S_ .f32 0x7F800000#32
  let main_v30 : FVec F S512 .f32 := broadcastInDim S512 ![] bcast_S_S512 main_cst_6
  let main_v31 : IVec S512 1 := cmpf .olt main_v29 main_v30
  let main_v32 : IVec S512x1024 1 := broadcastInDim S512x1024 ![0] bcast_S512_S512x1024_0 main_v31
  let main_v33 : IVec S512x1024 1 := andi main_v28 main_v32
  let main_v34 : FVec F S512 .f32 := Host.absf main_arg10
  let main_cst_7 : FVec F S_ .f32 := constant S_ .f32 0x7F800000#32
  let main_v35 : FVec F S512 .f32 := broadcastInDim S512 ![] bcast_S_S512 main_cst_7
  let main_v36 : IVec S512 1 := cmpf .olt main_v34 main_v35
  let main_v37 : IVec S512x1024 1 := broadcastInDim S512x1024 ![0] bcast_S512_S512x1024_0 main_v36
  let main_v38 : IVec S512x1024 1 := andi main_v33 main_v37
  fn_part2 (F := F) main_arg5 main_arg7 main_arg9 main_arg11 main_arg12 main_arg13 main_arg14 main_arg15 main_arg16 main_arg17 main_arg18 main_arg20 main_arg21 main_v7 main_v38

def fn {F : FTy → Type} [FloatOps F] (main_arg0 : FVec F S2x1024x1024 .f32) (main_arg1 : FVec F S512x1024 .f32) (main_arg2 : FVec F S512x1024 .f32) (main_arg3 : FVec F S512x1024 .f32) (main_arg4 : FVec F S1024x512 .f32) (main_arg5 : FVec F S512x1x4 .f32) (main_arg6 : FVec F S512 .f32) (main_arg7 : FVec F S512x1x4 .f32) (main_arg8 : FVec F S512 .f32) (main_arg9 : FVec F S512x1x4 .f32) (main_arg10 : FVec F S512 .f32) (main_arg11 : FVec F S8x1024 .f32) (main_arg12 : FVec F S8 .f32) (main_arg13 : FVec F S8x1024 .f32) (main_arg14 : FVec F S8 .f32) (main_arg15 : FVec F S8x1024 .f32) (main_arg16 : FVec F S8 .f32) (main_arg17 : FVec F S8x1024 .f32) (main_arg18 : FVec F S8 .f32) (main_arg19 : FVec F S2 .f32) (main_arg20 : FVec F S8x64 .f32) (main_arg21 : FVec F S8x1024 .f32) : IVec S2x1024x1024 1 × IVec S512x1024 1 × IVec S512x1x4 1 × IVec S8x1024 1 × IVec S8x64 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_v3 : FVec F S2 .f32 := Host.absf main_arg19
  let main_cst_0 : FVec F S_ .f32 := constant S_ .f32 0x7F800000#32
  let main_v4 : FVec F S2 .f32 := broadcastInDim S2 ![] bcast_S_S2 main_cst_0
  let main_v5 : IVec S2 1 := cmpf .olt main_v3 main_v4
  let main_v6 : IVec S2x1024x1024 1 := broadcastInDim S2x1024x1024 ![0] bcast_S2_S2x1024x1024_0 main_v5
  let main_v7 : IVec S2x1024x1024 1 := andi main_v2 main_v6
  let main_v8 : FVec F S512x1024 .f32 := Host.absf main_arg1
  let main_cst_1 : FVec F S_ .f32 := constant S_ .f32 0x7F800000#32
  let main_v9 : FVec F S512x1024 .f32 := broadcastInDim S512x1024 ![] bcast_S_S512x1024 main_cst_1
  let main_v10 : IVec S512x1024 1 := cmpf .olt main_v8 main_v9
  let main_v11 : FVec F S512x1024 .f32 := Host.absf main_arg2
  let main_cst_2 : FVec F S_ .f32 := constant S_ .f32 0x7F800000#32
  let main_v12 : FVec F S512x1024 .f32 := broadcastInDim S512x1024 ![] bcast_S_S512x1024 main_cst_2
  let main_v13 : IVec S512x1024 1 := cmpf .olt main_v11 main_v12
  let main_v14 : IVec S512x1024 1 := andi main_v10 main_v13
  let main_v15 : FVec F S512x1024 .f32 := Host.absf main_arg3
  let main_cst_3 : FVec F S_ .f32 := constant S_ .f32 0x7F800000#32
  let main_v16 : FVec F S512x1024 .f32 := broadcastInDim S512x1024 ![] bcast_S_S512x1024 main_cst_3
  let main_v17 : IVec S512x1024 1 := cmpf .olt main_v15 main_v16
  let main_v18 : IVec S512x1024 1 := andi main_v14 main_v17
  fn_part1 (F := F) main_arg4 main_arg5 main_arg6 main_arg7 main_arg8 main_arg9 main_arg10 main_arg11 main_arg12 main_arg13 main_arg14 main_arg15 main_arg16 main_arg17 main_arg18 main_arg20 main_arg21 main_v7 main_v18
-- ==== Kernel.lean ====
abbrev S2x1024x1024 : Shape := ⟨3, ![2, 1024, 1024]⟩
abbrev S512x1024 : Shape := ⟨2, ![512, 1024]⟩
abbrev S1024x512 : Shape := ⟨2, ![1024, 512]⟩
abbrev S512x1x4 : Shape := ⟨3, ![512, 1, 4]⟩
abbrev S512 : Shape := ⟨1, ![512]⟩
abbrev S8x1024 : Shape := ⟨2, ![8, 1024]⟩
abbrev S8 : Shape := ⟨1, ![8]⟩
abbrev S2 : Shape := ⟨1, ![2]⟩
abbrev S8x64 : Shape := ⟨2, ![8, 64]⟩
abbrev S512x4 : Shape := ⟨2, ![512, 4]⟩
abbrev S4x512 : Shape := ⟨2, ![4, 512]⟩
abbrev S1x512 : Shape := ⟨2, ![1, 512]⟩
abbrev S3x512 : Shape := ⟨2, ![3, 512]⟩
abbrev S_ : Shape := ⟨0, ![]⟩
abbrev S8x1x1024 : Shape := ⟨3, ![8, 1, 1024]⟩
abbrev S8x8x1024 : Shape := ⟨3, ![8, 8, 1024]⟩
abbrev S64x1024 : Shape := ⟨2, ![64, 1024]⟩
abbrev S8x1 : Shape := ⟨2, ![8, 1]⟩
abbrev S8x8 : Shape := ⟨2, ![8, 8]⟩
abbrev S1x64 : Shape := ⟨2, ![1, 64]⟩
abbrev S1x2 : Shape := ⟨2, ![1, 2]⟩
abbrev S2x1024x512 : Shape := ⟨3, ![2, 1024, 512]⟩
abbrev S2x1024x64 : Shape := ⟨3, ![2, 1024, 64]⟩
abbrev S1x1024x1024 : Shape := ⟨3, ![1, 1024, 1024]⟩
abbrev S1x1024x512 : Shape := ⟨3, ![1, 1024, 512]⟩
abbrev S1x1024x64 : Shape := ⟨3, ![1, 1024, 64]⟩
abbrev S1024x1024 : Shape := ⟨2, ![1024, 1024]⟩
abbrev S1021x512 : Shape := ⟨2, ![1021, 512]⟩
abbrev S2x512 : Shape := ⟨2, ![2, 512]⟩
abbrev S1022x512 : Shape := ⟨2, ![1022, 512]⟩
abbrev S1023x512 : Shape := ⟨2, ![1023, 512]⟩
abbrev S1x1 : Shape := ⟨2, ![1, 1]⟩
abbrev S1024x64 : Shape := ⟨2, ![1024, 64]⟩
abbrev S2x1024x8x64 : Shape := ⟨4, ![2, 1024, 8, 64]⟩
abbrev S2x8x1024x64 : Shape := ⟨4, ![2, 8, 1024, 64]⟩
abbrev S2x1024x8x8 : Shape := ⟨4, ![2, 1024, 8, 8]⟩
abbrev S2x8x1024x8 : Shape := ⟨4, ![2, 8, 1024, 8]⟩
abbrev S8x1x64 : Shape := ⟨3, ![8, 1, 64]⟩
abbrev S1x1x1024x64 : Shape := ⟨4, ![1, 1, 1024, 64]⟩
abbrev S1x1x1024x8 : Shape := ⟨4, ![1, 1, 1024, 8]⟩
abbrev S1x1x64 : Shape := ⟨3, ![1, 1, 64]⟩
abbrev S64x64 : Shape := ⟨2, ![64, 64]⟩
abbrev S1x1x64x64 : Shape := ⟨4, ![1, 1, 64, 64]⟩
abbrev S1x1x64x8 : Shape := ⟨4, ![1, 1, 64, 8]⟩
abbrev S64x8 : Shape := ⟨2, ![64, 8]⟩
abbrev S64x64x1 : Shape := ⟨3, ![64, 64, 1]⟩
abbrev S64x1x64 : Shape := ⟨3, ![64, 1, 64]⟩
abbrev S64x64x64 : Shape := ⟨3, ![64, 64, 64]⟩
abbrev S64x1 : Shape := ⟨2, ![64, 1]⟩
abbrev S64x1x1 : Shape := ⟨3, ![64, 1, 1]⟩
abbrev S1x64x64 : Shape := ⟨3, ![1, 64, 64]⟩
abbrev S64 : Shape := ⟨1, ![64]⟩
abbrev S1x8x1024x64 : Shape := ⟨4, ![1, 8, 1024, 64]⟩

abbrev nBuf : Space → Nat
  | .hbm => 72
  | .vmem => 37
  | .smem => 0
  | _ => 0

abbrev bufTy : (tb : Table) → Fin (tcTables nBuf tb) → BufTy
  | .hbm, ⟨0, _⟩ => ⟨S2x1024x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S1024x512, .f32⟩
  | .hbm, ⟨5, _⟩ => ⟨S512x1x4, .f32⟩
  | .hbm, ⟨6, _⟩ => ⟨S512, .f32⟩
  | .hbm, ⟨7, _⟩ => ⟨S512x1x4, .f32⟩
  | .hbm, ⟨8, _⟩ => ⟨S512, .f32⟩
  | .hbm, ⟨9, _⟩ => ⟨S512x1x4, .f32⟩
  | .hbm, ⟨10, _⟩ => ⟨S512, .f32⟩
  | .hbm, ⟨11, _⟩ => ⟨S8x1024, .f32⟩
  | .hbm, ⟨12, _⟩ => ⟨S8, .f32⟩
  | .hbm, ⟨13, _⟩ => ⟨S8x1024, .f32⟩
  | .hbm, ⟨14, _⟩ => ⟨S8, .f32⟩
  | .hbm, ⟨15, _⟩ => ⟨S8x1024, .f32⟩
  | .hbm, ⟨16, _⟩ => ⟨S8, .f32⟩
  | .hbm, ⟨17, _⟩ => ⟨S8x1024, .f32⟩
  | .hbm, ⟨18, _⟩ => ⟨S8, .f32⟩
  | .hbm, ⟨19, _⟩ => ⟨S2, .f32⟩
  | .hbm, ⟨20, _⟩ => ⟨S8x64, .f32⟩
  | .hbm, ⟨21, _⟩ => ⟨S8x1024, .f32⟩
  | .hbm, ⟨22, _⟩ => ⟨S512x4, .f32⟩
  | .hbm, ⟨23, _⟩ => ⟨S4x512, .f32⟩
  | .hbm, ⟨24, _⟩ => ⟨S512x4, .f32⟩
  | .hbm, ⟨25, _⟩ => ⟨S4x512, .f32⟩
  | .hbm, ⟨26, _⟩ => ⟨S512x4, .f32⟩
  | .hbm, ⟨27, _⟩ => ⟨S4x512, .f32⟩
  | .hbm, ⟨28, _⟩ => ⟨S1x512, .f32⟩
  | .hbm, ⟨29, _⟩ => ⟨S1x512, .f32⟩
  | .hbm, ⟨30, _⟩ => ⟨S1x512, .f32⟩
  | .hbm, ⟨31, _⟩ => ⟨S3x512, .f32⟩
  | .hbm, ⟨32, _⟩ => ⟨S_, .f32⟩
  | .hbm, ⟨33, _⟩ => ⟨S8x1024, .f32⟩
  | .hbm, ⟨34, _⟩ => ⟨S8x1x1024, .f32⟩
  | .hbm, ⟨35, _⟩ => ⟨S8x1x1024, .f32⟩
  | .hbm, ⟨36, _⟩ => ⟨S8x1x1024, .f32⟩
  | .hbm, ⟨37, _⟩ => ⟨S8x1x1024, .f32⟩
  | .hbm, ⟨38, _⟩ => ⟨S8x1x1024, .f32⟩
  | .hbm, ⟨39, _⟩ => ⟨S8x1x1024, .f32⟩
  | .hbm, ⟨40, _⟩ => ⟨S8x1x1024, .f32⟩
  | .hbm, ⟨41, _⟩ => ⟨S8x1x1024, .f32⟩
  | .hbm, ⟨42, _⟩ => ⟨S8x8x1024, .f32⟩
  | .hbm, ⟨43, _⟩ => ⟨S64x1024, .f32⟩
  | .hbm, ⟨44, _⟩ => ⟨S_, .f32⟩
  | .hbm, ⟨45, _⟩ => ⟨S8, .f32⟩
  | .hbm, ⟨46, _⟩ => ⟨S8x1, .f32⟩
  | .hbm, ⟨47, _⟩ => ⟨S8x1, .f32⟩
  | .hbm, ⟨48, _⟩ => ⟨S8x1, .f32⟩
  | .hbm, ⟨49, _⟩ => ⟨S8x1, .f32⟩
  | .hbm, ⟨50, _⟩ => ⟨S8x1, .f32⟩
  | .hbm, ⟨51, _⟩ => ⟨S8x1, .f32⟩
  | .hbm, ⟨52, _⟩ => ⟨S8x1, .f32⟩
  | .hbm, ⟨53, _⟩ => ⟨S8x1, .f32⟩
  | .hbm, ⟨54, _⟩ => ⟨S8x8, .f32⟩
  | .hbm, ⟨55, _⟩ => ⟨S1x64, .f32⟩
  | .hbm, ⟨56, _⟩ => ⟨S1x2, .f32⟩
  | .hbm, ⟨57, _⟩ => ⟨S2x1024x512, .f32⟩
  | .hbm, ⟨58, _⟩ => ⟨S2x1024x512, .f32⟩
  | .hbm, ⟨59, _⟩ => ⟨S2x1024x512, .f32⟩
  | .hbm, ⟨60, _⟩ => ⟨S2x1024x64, .f32⟩
  | .hbm, ⟨61, _⟩ => ⟨S2x1024x8x64, .f32⟩
  | .hbm, ⟨62, _⟩ => ⟨S2x8x1024x64, .f32⟩
  | .hbm, ⟨63, _⟩ => ⟨S2x1024x8x64, .f32⟩
  | .hbm, ⟨64, _⟩ => ⟨S2x8x1024x64, .f32⟩
  | .hbm, ⟨65, _⟩ => ⟨S2x1024x8x64, .f32⟩
  | .hbm, ⟨66, _⟩ => ⟨S2x8x1024x64, .f32⟩
  | .hbm, ⟨67, _⟩ => ⟨S2x1024x8x8, .f32⟩
  | .hbm, ⟨68, _⟩ => ⟨S2x8x1024x8, .f32⟩
  | .hbm, ⟨69, _⟩ => ⟨S8x1x64, .f32⟩
  | .hbm, ⟨70, _⟩ => ⟨S2x8x1024x64, .f32⟩
  | .hbm, ⟨71, _⟩ => ⟨S2x1024x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S4x512, .f32⟩
  | .local _ .vmem, ⟨6, _⟩ => ⟨S4x512, .f32⟩
  | .local _ .vmem, ⟨7, _⟩ => ⟨S4x512, .f32⟩
  | .local _ .vmem, ⟨8, _⟩ => ⟨S3x512, .f32⟩
  | .local _ .vmem, ⟨9, _⟩ => ⟨S64x1024, .f32⟩
  | .local _ .vmem, ⟨10, _⟩ => ⟨S1x64, .f32⟩
  | .local _ .vmem, ⟨11, _⟩ => ⟨S1x2, .f32⟩
  | .local _ .vmem, ⟨12, _⟩ => ⟨S1x1024x512, .f32⟩
  | .local _ .vmem, ⟨13, _⟩ => ⟨S1x1024x512, .f32⟩
  | .local _ .vmem, ⟨14, _⟩ => ⟨S1x1024x512, .f32⟩
  | .local _ .vmem, ⟨15, _⟩ => ⟨S1x1024x512, .f32⟩
  | .local _ .vmem, ⟨16, _⟩ => ⟨S1x1024x512, .f32⟩
  | .local _ .vmem, ⟨17, _⟩ => ⟨S1x1024x512, .f32⟩
  | .local _ .vmem, ⟨18, _⟩ => ⟨S1x1024x64, .f32⟩
  | .local _ .vmem, ⟨19, _⟩ => ⟨S1x1024x64, .f32⟩
  | .local _ .vmem, ⟨20, _⟩ => ⟨S1x1x1024x64, .f32⟩
  | .local _ .vmem, ⟨21, _⟩ => ⟨S1x1x1024x64, .f32⟩
  | .local _ .vmem, ⟨22, _⟩ => ⟨S1x1x1024x64, .f32⟩
  | .local _ .vmem, ⟨23, _⟩ => ⟨S1x1x1024x64, .f32⟩
  | .local _ .vmem, ⟨24, _⟩ => ⟨S1x1x1024x64, .f32⟩
  | .local _ .vmem, ⟨25, _⟩ => ⟨S1x1x1024x64, .f32⟩
  | .local _ .vmem, ⟨26, _⟩ => ⟨S1x1x1024x8, .f32⟩
  | .local _ .vmem, ⟨27, _⟩ => ⟨S1x1x1024x8, .f32⟩
  | .local _ .vmem, ⟨28, _⟩ => ⟨S1x1x64, .f32⟩
  | .local _ .vmem, ⟨29, _⟩ => ⟨S1x1x64, .f32⟩
  | .local _ .vmem, ⟨30, _⟩ => ⟨S1x1x1024x64, .f32⟩
  | .local _ .vmem, ⟨31, _⟩ => ⟨S1x1x1024x64, .f32⟩
  | .local _ .vmem, ⟨32, _⟩ => ⟨S1x8x1024x64, .f32⟩
  | .local _ .vmem, ⟨33, _⟩ => ⟨S1x8x1024x64, .f32⟩
  | .local _ .vmem, ⟨34, _⟩ => ⟨S1024x512, .f32⟩
  | .local _ .vmem, ⟨35, _⟩ => ⟨S1x1024x1024, .f32⟩
  | .local _ .vmem, ⟨36, _⟩ => ⟨S1x1024x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_cst_0 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33_0 : Ref sig .tc := ⟨.hbm, 57, rfl⟩
abbrev main_v33_1 : Ref sig .tc := ⟨.hbm, 58, rfl⟩
abbrev main_v33_2 : Ref sig .tc := ⟨.hbm, 59, rfl⟩
abbrev main_v33_3 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg2_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc2_sem0_0 : DmaSem sig := 32
abbrev cc2_sem0_1 : DmaSem sig := 33
abbrev cc2_sem1_0 : DmaSem sig := 34
abbrev cc2_sem2_0 : DmaSem sig := 35
abbrev cc2_sem2_1 : DmaSem sig := 36

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1024x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![16], ![false]⟩

@[reducible] def k1_t1_loop : Scf.Loop 32 :=
  let c0_i32 : BitVec 32 := 0#32
  let c16_i32_6 : BitVec 32 := 16#32
  let v16 : BitVec 32 := Scalar.addi c0_i32 c16_i32_6
  let c1_i32 : BitVec 32 := 1#32
  ⟨c0_i32, v16, c1_i32⟩
def k1_off1 (k1_t1 : Fin k1_t1_loop.trips) : Fin 4 → Nat :=
  let c0_8 : Index := 0#32
  let c0_9 : Index := 0#32
  let c0_i32 : BitVec 32 := 0#32
  let c1_i32 : BitVec 32 := 1#32
  let arg7 : BitVec 32 := Scf.iv c0_i32 c1_i32 k1_t1
  let c64_i32 : BitVec 32 := 64#32
  let v18 : BitVec 32 := Scalar.muli arg7 c64_i32
  let v19 : Index := Scalar.indexCast v18
  let c0_10 : Index := 0#32
  ![0, 0, v19.toNat, 0]
def k1_off2 (k1_t1 : Fin k1_t1_loop.trips) : Fin 4 → Nat :=
  let c0_17 : Index := 0#32
  let c0_18 : Index := 0#32
  let c0_i32 : BitVec 32 := 0#32
  let c1_i32 : BitVec 32 := 1#32
  let arg7 : BitVec 32 := Scf.iv c0_i32 c1_i32 k1_t1
  let c64_i32 : BitVec 32 := 64#32
  let v18 : BitVec 32 := Scalar.muli arg7 c64_i32
  let v28 : Index := Scalar.indexCast v18
  let c0_19 : Index := 0#32
  ![0, 0, v28.toNat, 0]
def cc1_transform_0 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_1 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_2 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_3 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_4 (i : grid1.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc1_transform_5 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

abbrev stage1_0 : Fin 2 → Memref sig .tc .vmem S1x1x1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024x8 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![2], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x8x1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]
-- ==== ReferenceIdeal.lean ====
abbrev S2x1024x1024 : Shape := ⟨3, ![2, 1024, 1024]⟩
abbrev S512x1024 : Shape := ⟨2, ![512, 1024]⟩
abbrev S1024x512 : Shape := ⟨2, ![1024, 512]⟩
abbrev S512x1x4 : Shape := ⟨3, ![512, 1, 4]⟩
abbrev S512 : Shape := ⟨1, ![512]⟩
abbrev S8x1024 : Shape := ⟨2, ![8, 1024]⟩
abbrev S8 : Shape := ⟨1, ![8]⟩
abbrev S2 : Shape := ⟨1, ![2]⟩
abbrev S8x64 : Shape := ⟨2, ![8, 64]⟩
abbrev S2x1024x512 : Shape := ⟨3, ![2, 1024, 512]⟩
abbrev S_ : Shape := ⟨0, ![]⟩
abbrev S2x1027x512 : Shape := ⟨3, ![2, 1027, 512]⟩
abbrev S512x1x1 : Shape := ⟨3, ![512, 1, 1]⟩
abbrev S1x1x512 : Shape := ⟨3, ![1, 1, 512]⟩
abbrev S2x1024x8x64 : Shape := ⟨4, ![2, 1024, 8, 64]⟩
abbrev S2x8x1024x64 : Shape := ⟨4, ![2, 8, 1024, 64]⟩
abbrev S1024x8 : Shape := ⟨2, ![1024, 8]⟩
abbrev S2x1024x8 : Shape := ⟨3, ![2, 1024, 8]⟩
abbrev S1x1x8 : Shape := ⟨3, ![1, 1, 8]⟩
abbrev S2x8x1024 : Shape := ⟨3, ![2, 8, 1024]⟩
abbrev S1 : Shape := ⟨1, ![1]⟩
abbrev S2x8x1039x64 : Shape := ⟨4, ![2, 8, 1039, 64]⟩
abbrev S2x8x1039 : Shape := ⟨3, ![2, 8, 1039]⟩
abbrev S2x8x64x64 : Shape := ⟨4, ![2, 8, 64, 64]⟩
abbrev S2x8x16x64 : Shape := ⟨4, ![2, 8, 16, 64]⟩
abbrev S2x8x16 : Shape := ⟨3, ![2, 8, 16]⟩
abbrev S16 : Shape := ⟨1, ![16]⟩
abbrev S2x8x16x1 : Shape := ⟨4, ![2, 8, 16, 1]⟩
abbrev S2x8x1 : Shape := ⟨3, ![2, 8, 1]⟩
abbrev S2x8x1x1 : Shape := ⟨4, ![2, 8, 1, 1]⟩
abbrev S2x8 : Shape := ⟨2, ![2, 8]⟩
abbrev S2x8x1x64 : Shape := ⟨4, ![2, 8, 1, 64]⟩
abbrev S1024 : Shape := ⟨1, ![1024]⟩
abbrev S1024x1 : Shape := ⟨2, ![1024, 1]⟩
abbrev S2x8x1024x1 : Shape := ⟨4, ![2, 8, 1024, 1]⟩
abbrev S8x1x64 : Shape := ⟨3, ![8, 1, 64]⟩
abbrev S1x8x1x64 : Shape := ⟨4, ![1, 8, 1, 64]⟩

abbrev nBuf : Space → Nat
  | .hbm => 456
  | .vmem => 0
  | .smem => 0
  | _ => 0

abbrev hbmTy0_0 (i : Nat) : BufTy := match i % 128 with
  | 0 => ⟨S2x1024x1024, .f32⟩
  | 1 => ⟨S512x1024, .f32⟩
  | 2 => ⟨S512x1024, .f32⟩
  | 3 => ⟨S512x1024, .f32⟩
  | 4 => ⟨S1024x512, .f32⟩
  | 5 => ⟨S512x1x4, .f32⟩
  | 6 => ⟨S512, .f32⟩
  | 7 => ⟨S512x1x4, .f32⟩
  | 8 => ⟨S512, .f32⟩
  | 9 => ⟨S512x1x4, .f32⟩
  | 10 => ⟨S512, .f32⟩
  | 11 => ⟨S8x1024, .f32⟩
  | 12 => ⟨S8, .f32⟩
  | 13 => ⟨S8x1024, .f32⟩
  | 14 => ⟨S8, .f32⟩
  | 15 => ⟨S8x1024, .f32⟩
  | 16 => ⟨S8, .f32⟩
  | 17 => ⟨S8x1024, .f32⟩
  | 18 => ⟨S8, .f32⟩
  | 19 => ⟨S2, .f32⟩
  | 20 => ⟨S8x64, .f32⟩
  | 21 => ⟨S8x1024, .f32⟩
  | 22 => ⟨S1024x512, .f32⟩
  | 23 => ⟨S2x1024x512, .f32⟩
  | 24 => ⟨S_, .i32⟩
  | 25 => ⟨S_, .f32⟩
  | 26 => ⟨S2x1027x512, .f32⟩
  | 27 => ⟨S_, .f32⟩
  | 28 => ⟨S2x1024x512, .f32⟩
  | 29 => ⟨S512x1x1, .f32⟩
  | 30 => ⟨S512, .f32⟩
  | 31 => ⟨S2x1024x512, .f32⟩
  | 32 => ⟨S1x1x512, .f32⟩
  | 33 => ⟨S2x1024x512, .f32⟩
  | 34 => ⟨S2x1024x512, .f32⟩
  | 35 => ⟨S2x1024x512, .f32⟩
  | 36 => ⟨S512x1x1, .f32⟩
  | 37 => ⟨S512, .f32⟩
  | 38 => ⟨S2x1024x512, .f32⟩
  | 39 => ⟨S1x1x512, .f32⟩
  | 40 => ⟨S2x1024x512, .f32⟩
  | 41 => ⟨S2x1024x512, .f32⟩
  | 42 => ⟨S2x1024x512, .f32⟩
  | 43 => ⟨S512x1x1, .f32⟩
  | 44 => ⟨S512, .f32⟩
  | 45 => ⟨S2x1024x512, .f32⟩
  | 46 => ⟨S1x1x512, .f32⟩
  | 47 => ⟨S2x1024x512, .f32⟩
  | 48 => ⟨S2x1024x512, .f32⟩
  | 49 => ⟨S2x1024x512, .f32⟩
  | 50 => ⟨S512x1x1, .f32⟩
  | 51 => ⟨S512, .f32⟩
  | 52 => ⟨S2x1024x512, .f32⟩
  | 53 => ⟨S1x1x512, .f32⟩
  | 54 => ⟨S2x1024x512, .f32⟩
  | 55 => ⟨S2x1024x512, .f32⟩
  | 56 => ⟨S2x1024x512, .f32⟩
  | 57 => ⟨S1x1x512, .f32⟩
  | 58 => ⟨S2x1024x512, .f32⟩
  | 59 => ⟨S2x1024x512, .f32⟩
  | 60 => ⟨S2x1024x8x64, .f32⟩
  | 61 => ⟨S2x8x1024x64, .f32⟩
  | 62 => ⟨S1024x512, .f32⟩
  | 63 => ⟨S2x1024x512, .f32⟩
  | 64 => ⟨S_, .i32⟩
  | 65 => ⟨S_, .f32⟩
  | 66 => ⟨S2x1027x512, .f32⟩
  | 67 => ⟨S_, .f32⟩
  | 68 => ⟨S2x1024x512, .f32⟩
  | 69 => ⟨S512x1x1, .f32⟩
  | 70 => ⟨S512, .f32⟩
  | 71 => ⟨S2x1024x512, .f32⟩
  | 72 => ⟨S1x1x512, .f32⟩
  | 73 => ⟨S2x1024x512, .f32⟩
  | 74 => ⟨S2x1024x512, .f32⟩
  | 75 => ⟨S2x1024x512, .f32⟩
  | 76 => ⟨S512x1x1, .f32⟩
  | 77 => ⟨S512, .f32⟩
  | 78 => ⟨S2x1024x512, .f32⟩
  | 79 => ⟨S1x1x512, .f32⟩
  | 80 => ⟨S2x1024x512, .f32⟩
  | 81 => ⟨S2x1024x512, .f32⟩
  | 82 => ⟨S2x1024x512, .f32⟩
  | 83 => ⟨S512x1x1, .f32⟩
  | 84 => ⟨S512, .f32⟩
  | 85 => ⟨S2x1024x512, .f32⟩
  | 86 => ⟨S1x1x512, .f32⟩
  | 87 => ⟨S2x1024x512, .f32⟩
  | 88 => ⟨S2x1024x512, .f32⟩
  | 89 => ⟨S2x1024x512, .f32⟩
  | 90 => ⟨S512x1x1, .f32⟩
  | 91 => ⟨S512, .f32⟩
  | 92 => ⟨S2x1024x512, .f32⟩
  | 93 => ⟨S1x1x512, .f32⟩
  | 94 => ⟨S2x1024x512, .f32⟩
  | 95 => ⟨S2x1024x512, .f32⟩
  | 96 => ⟨S2x1024x512, .f32⟩
  | 97 => ⟨S1x1x512, .f32⟩
  | 98 => ⟨S2x1024x512, .f32⟩
  | 99 => ⟨S2x1024x512, .f32⟩
  | 100 => ⟨S2x1024x8x64, .f32⟩
  | 101 => ⟨S2x8x1024x64, .f32⟩
  | 102 => ⟨S1024x512, .f32⟩
  | 103 => ⟨S2x1024x512, .f32⟩
  | 104 => ⟨S_, .i32⟩
  | 105 => ⟨S_, .f32⟩
  | 106 => ⟨S2x1027x512, .f32⟩
  | 107 => ⟨S_, .f32⟩
  | 108 => ⟨S2x1024x512, .f32⟩
  | 109 => ⟨S512x1x1, .f32⟩
  | 110 => ⟨S512, .f32⟩
  | 111 => ⟨S2x1024x512, .f32⟩
  | 112 => ⟨S1x1x512, .f32⟩
  | 113 => ⟨S2x1024x512, .f32⟩
  | 114 => ⟨S2x1024x512, .f32⟩
  | 115 => ⟨S2x1024x512, .f32⟩
  | 116 => ⟨S512x1x1, .f32⟩
  | 117 => ⟨S512, .f32⟩
  | 118 => ⟨S2x1024x512, .f32⟩
  | 119 => ⟨S1x1x512, .f32⟩
  | 120 => ⟨S2x1024x512, .f32⟩
  | 121 => ⟨S2x1024x512, .f32⟩
  | 122 => ⟨S2x1024x512, .f32⟩
  | 123 => ⟨S512x1x1, .f32⟩
  | 124 => ⟨S512, .f32⟩
  | 125 => ⟨S2x1024x512, .f32⟩
  | 126 => ⟨S1x1x512, .f32⟩
  | 127 => ⟨S2x1024x512, .f32⟩
  | _ => ⟨S2x1024x1024, .f32⟩

abbrev hbmTy0_1 (i : Nat) : BufTy := match i % 128 with
  | 0 => ⟨S2x1024x512, .f32⟩
  | 1 => ⟨S2x1024x512, .f32⟩
  | 2 => ⟨S512x1x1, .f32⟩
  | 3 => ⟨S512, .f32⟩
  | 4 => ⟨S2x1024x512, .f32⟩
  | 5 => ⟨S1x1x512, .f32⟩
  | 6 => ⟨S2x1024x512, .f32⟩
  | 7 => ⟨S2x1024x512, .f32⟩
  | 8 => ⟨S2x1024x512, .f32⟩
  | 9 => ⟨S1x1x512, .f32⟩
  | 10 => ⟨S2x1024x512, .f32⟩
  | 11 => ⟨S2x1024x512, .f32⟩
  | 12 => ⟨S2x1024x8x64, .f32⟩
  | 13 => ⟨S2x8x1024x64, .f32⟩
  | 14 => ⟨S1024x8, .f32⟩
  | 15 => ⟨S2x1024x8, .f32⟩
  | 16 => ⟨S1x1x8, .f32⟩
  | 17 => ⟨S2x1024x8, .f32⟩
  | 18 => ⟨S2x1024x8, .f32⟩
  | 19 => ⟨S2x1024x8, .f32⟩
  | 20 => ⟨S2x1024x8, .f32⟩
  | 21 => ⟨S_, .f32⟩
  | 22 => ⟨S2x1024x8, .f32⟩
  | 23 => ⟨S2x1024x8, .f32⟩
  | 24 => ⟨S_, .f32⟩
  | 25 => ⟨S2x1024x8, .f32⟩
  | 26 => ⟨S2x1024x8, .f32⟩
  | 27 => ⟨S2x8x1024, .f32⟩
  | 28 => ⟨S1024x8, .f32⟩
  | 29 => ⟨S2x1024x8, .f32⟩
  | 30 => ⟨S1x1x8, .f32⟩
  | 31 => ⟨S2x1024x8, .f32⟩
  | 32 => ⟨S2x1024x8, .f32⟩
  | 33 => ⟨S2x1024x8, .f32⟩
  | 34 => ⟨S2x1024x8, .f32⟩
  | 35 => ⟨S_, .f32⟩
  | 36 => ⟨S2x1024x8, .f32⟩
  | 37 => ⟨S2x1024x8, .f32⟩
  | 38 => ⟨S_, .f32⟩
  | 39 => ⟨S2x1024x8, .f32⟩
  | 40 => ⟨S2x1024x8, .f32⟩
  | 41 => ⟨S2x8x1024, .f32⟩
  | 42 => ⟨S_, .f32⟩
  | 43 => ⟨S2x8x1024, .f32⟩
  | 44 => ⟨S2x8x1024, .f32⟩
  | 45 => ⟨S1024x8, .f32⟩
  | 46 => ⟨S2x1024x8, .f32⟩
  | 47 => ⟨S1x1x8, .f32⟩
  | 48 => ⟨S2x1024x8, .f32⟩
  | 49 => ⟨S2x1024x8, .f32⟩
  | 50 => ⟨S2x1024x8, .f32⟩
  | 51 => ⟨S2x1024x8, .f32⟩
  | 52 => ⟨S_, .f32⟩
  | 53 => ⟨S2x1024x8, .f32⟩
  | 54 => ⟨S2x1024x8, .f32⟩
  | 55 => ⟨S_, .f32⟩
  | 56 => ⟨S2x1024x8, .f32⟩
  | 57 => ⟨S2x1024x8, .f32⟩
  | 58 => ⟨S2x8x1024, .f32⟩
  | 59 => ⟨S1024x8, .f32⟩
  | 60 => ⟨S2x1024x8, .f32⟩
  | 61 => ⟨S1x1x8, .f32⟩
  | 62 => ⟨S2x1024x8, .f32⟩
  | 63 => ⟨S2x1024x8, .f32⟩
  | 64 => ⟨S2x1024x8, .f32⟩
  | 65 => ⟨S2x1024x8, .f32⟩
  | 66 => ⟨S_, .f32⟩
  | 67 => ⟨S2x1024x8, .f32⟩
  | 68 => ⟨S2x1024x8, .f32⟩
  | 69 => ⟨S_, .f32⟩
  | 70 => ⟨S2x1024x8, .f32⟩
  | 71 => ⟨S2x1024x8, .f32⟩
  | 72 => ⟨S2x8x1024, .f32⟩
  | 73 => ⟨S1, .f32⟩
  | 74 => ⟨S_, .f32⟩
  | 75 => ⟨S2x8x1024x64, .f32⟩
  | 76 => ⟨S2x8x1024x64, .f32⟩
  | 77 => ⟨S1, .f32⟩
  | 78 => ⟨S_, .f32⟩
  | 79 => ⟨S2x8x1024x64, .f32⟩
  | 80 => ⟨S2x8x1024x64, .f32⟩
  | 81 => ⟨S2x8x1024x64, .f32⟩
  | 82 => ⟨S2x8x1024x64, .f32⟩
  | 83 => ⟨S_, .i32⟩
  | 84 => ⟨S_, .f32⟩
  | 85 => ⟨S2x8x1039x64, .f32⟩
  | 86 => ⟨S_, .i32⟩
  | 87 => ⟨S_, .f32⟩
  | 88 => ⟨S2x8x1039x64, .f32⟩
  | 89 => ⟨S_, .i32⟩
  | 90 => ⟨S_, .f32⟩
  | 91 => ⟨S2x8x1039, .f32⟩
  | 92 => ⟨S_, .f32⟩
  | 93 => ⟨S2x8x64x64, .f32⟩
  | 94 => ⟨S_, .f32⟩
  | 95 => ⟨S2x8x1024x64, .f32⟩
  | 96 => ⟨S_, .i32⟩
  | 97 => ⟨S_, .i32⟩
  | 98 => ⟨S2x8x1039x64, .f32⟩
  | 99 => ⟨S2x8x1039x64, .f32⟩
  | 100 => ⟨S2x8x1039, .f32⟩
  | 101 => ⟨S2x8x1024, .f32⟩
  | 102 => ⟨S2x8x1024, .f32⟩
  | 103 => ⟨S2x8x1024, .f32⟩
  | 104 => ⟨S2x8x1024x64, .f32⟩
  | 105 => ⟨S_, .i32⟩
  | 106 => ⟨S_, .i32⟩
  | 107 => ⟨S2x8x64x64, .f32⟩
  | 108 => ⟨S2x8x64x64, .f32⟩
  | 109 => ⟨S2x8x64x64, .f32⟩
  | 110 => ⟨S2x8x1024x64, .f32⟩
  | 111 => ⟨S_, .i32⟩
  | 112 => ⟨S_, .i1⟩
  | 113 => ⟨S_, .i32⟩
  | 114 => ⟨S_, .i32⟩
  | 115 => ⟨S_, .i32⟩
  | 116 => ⟨S_, .i32⟩
  | 117 => ⟨S_, .i32⟩
  | 118 => ⟨S_, .i1⟩
  | 119 => ⟨S2x8x64x64, .f32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S_, .i32⟩
  | _ => ⟨S2x1024x1024, .f32⟩

abbrev hbmTy0_2 (i : Nat) : BufTy := match i % 128 with
  | 0 => ⟨S_, .i32⟩
  | 1 => ⟨S2x8x16x64, .f32⟩
  | 2 => ⟨S_, .i32⟩
  | 3 => ⟨S_, .i1⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S2x8x16x64, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S2x8x16, .f32⟩
  | 21 => ⟨S16, .i32⟩
  | 22 => ⟨S_, .i32⟩
  | 23 => ⟨S16, .i32⟩
  | 24 => ⟨S16, .i32⟩
  | 25 => ⟨S_, .i32⟩
  | 26 => ⟨S16, .i32⟩
  | 27 => ⟨S16, .i1⟩
  | 28 => ⟨S_, .f32⟩
  | 29 => ⟨S_, .f32⟩
  | 30 => ⟨S2x8x16, .i1⟩
  | 31 => ⟨S2x8x16, .f32⟩
  | 32 => ⟨S2x8x16, .f32⟩
  | 33 => ⟨S2x8x16x64, .f32⟩
  | 34 => ⟨S2x8x16x64, .f32⟩
  | 35 => ⟨S2x8x16x1, .f32⟩
  | 36 => ⟨S_, .f32⟩
  | 37 => ⟨S2x8x16x1, .f32⟩
  | 38 => ⟨S2x8x16x1, .f32⟩
  | 39 => ⟨S2x8x16x64, .f32⟩
  | 40 => ⟨S2x8x16x64, .f32⟩
  | 41 => ⟨S2x8x64x64, .f32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S2x8x1, .f32⟩
  | 51 => ⟨S2x8x1x1, .f32⟩
  | 52 => ⟨S2x8x64x64, .f32⟩
  | 53 => ⟨S2x8x64x64, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S2x8x1, .f32⟩
  | 63 => ⟨S2x8x1x1, .f32⟩
  | 64 => ⟨S2x8x64x64, .f32⟩
  | 65 => ⟨S2x8x64x64, .f32⟩
  | 66 => ⟨S2x8x64x64, .f32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S_, .i32⟩
  | 75 => ⟨S2x8x1, .f32⟩
  | 76 => ⟨S2x8x1x1, .f32⟩
  | 77 => ⟨S2x8x64x64, .f32⟩
  | 78 => ⟨S2x8x64x64, .f32⟩
  | 79 => ⟨S2x8x64x64, .f32⟩
  | 80 => ⟨S_, .f32⟩
  | 81 => ⟨S2x8, .f32⟩
  | 82 => ⟨S2x8x1x1, .f32⟩
  | 83 => ⟨S_, .f32⟩
  | 84 => ⟨S2x8x1x1, .f32⟩
  | 85 => ⟨S2x8x1x1, .f32⟩
  | 86 => ⟨S2x8x1x1, .f32⟩
  | 87 => ⟨S_, .f32⟩
  | 88 => ⟨S2x8x1x1, .f32⟩
  | 89 => ⟨S2x8x1x1, .f32⟩
  | 90 => ⟨S_, .f32⟩
  | 91 => ⟨S2x8x1x1, .f32⟩
  | 92 => ⟨S2x8x1x1, .f32⟩
  | 93 => ⟨S2x8x64x64, .f32⟩
  | 94 => ⟨S2x8x64x64, .f32⟩
  | 95 => ⟨S2x8x64x64, .f32⟩
  | 96 => ⟨S2x8x64x64, .f32⟩
  | 97 => ⟨S_, .f32⟩
  | 98 => ⟨S2x8x64x64, .f32⟩
  | 99 => ⟨S2x8x64x64, .f32⟩
  | 100 => ⟨S2x8x64x64, .f32⟩
  | 101 => ⟨S_, .f32⟩
  | 102 => ⟨S2x8x64x64, .f32⟩
  | 103 => ⟨S2x8x64x64, .f32⟩
  | 104 => ⟨S2x8x64x64, .f32⟩
  | 105 => ⟨S_, .f32⟩
  | 106 => ⟨S2x8x64x64, .f32⟩
  | 107 => ⟨S2x8x64x64, .f32⟩
  | 108 => ⟨S2x8x64x64, .f32⟩
  | 109 => ⟨S2x8x64x64, .f32⟩
  | 110 => ⟨S2x8x64x64, .f32⟩
  | 111 => ⟨S2x8x64x64, .f32⟩
  | 112 => ⟨S_, .f32⟩
  | 113 => ⟨S2x8x64x64, .f32⟩
  | 114 => ⟨S2x8x64x64, .f32⟩
  | 115 => ⟨S2x8x64x64, .f32⟩
  | 116 => ⟨S_, .f32⟩
  | 117 => ⟨S2x8x64x64, .f32⟩
  | 118 => ⟨S2x8x64x64, .f32⟩
  | 119 => ⟨S2x8x64x64, .f32⟩
  | 120 => ⟨S_, .f32⟩
  | 121 => ⟨S2x8x64x64, .f32⟩
  | 122 => ⟨S2x8x64x64, .f32⟩
  | 123 => ⟨S2x8x64x64, .f32⟩
  | 124 => ⟨S2x8x64x64, .f32⟩
  | 125 => ⟨S2x8x64x64, .f32⟩
  | 126 => ⟨S2x8x64x64, .f32⟩
  | 127 => ⟨S_, .f32⟩
  | _ => ⟨S2x1024x1024, .f32⟩

abbrev hbmTy0_3 (i : Nat) : BufTy := match i % 128 with
  | 0 => ⟨S2x8x64x64, .f32⟩
  | 1 => ⟨S2x8x64x64, .f32⟩
  | 2 => ⟨S2x8x64x64, .f32⟩
  | 3 => ⟨S_, .f32⟩
  | 4 => ⟨S2x8x64x64, .f32⟩
  | 5 => ⟨S2x8x64x64, .f32⟩
  | 6 => ⟨S2x8x64x64, .f32⟩
  | 7 => ⟨S_, .f32⟩
  | 8 => ⟨S2x8x64x64, .f32⟩
  | 9 => ⟨S2x8x64x64, .f32⟩
  | 10 => ⟨S2x8x64x64, .f32⟩
  | 11 => ⟨S2x8x64x64, .f32⟩
  | 12 => ⟨S2x8x64x64, .f32⟩
  | 13 => ⟨S_, .i32⟩
  | 14 => ⟨S_, .i1⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S_, .i32⟩
  | 22 => ⟨S2x8x1x64, .f32⟩
  | 23 => ⟨S2x8x1x64, .f32⟩
  | 24 => ⟨S1024, .i32⟩
  | 25 => ⟨S_, .i32⟩
  | 26 => ⟨S1024, .i32⟩
  | 27 => ⟨S1024, .i1⟩
  | 28 => ⟨S1024x1, .i1⟩
  | 29 => ⟨S2x8x1024x64, .i1⟩
  | 30 => ⟨S2x8x1024x64, .f32⟩
  | 31 => ⟨S2x8x1024x64, .f32⟩
  | 32 => ⟨S_, .i32⟩
  | 33 => ⟨S_, .i32⟩
  | 34 => ⟨S2x8x1024x64, .f32⟩
  | 35 => ⟨S_, .f32⟩
  | 36 => ⟨S2x8x1024, .f32⟩
  | 37 => ⟨S2x8x1024x1, .f32⟩
  | 38 => ⟨S_, .f32⟩
  | 39 => ⟨S2x8x1024x1, .f32⟩
  | 40 => ⟨S2x8x1024x1, .f32⟩
  | 41 => ⟨S_, .f32⟩
  | 42 => ⟨S2x8x1024x1, .f32⟩
  | 43 => ⟨S2x8x1024x1, .f32⟩
  | 44 => ⟨S2x8x1024x1, .f32⟩
  | 45 => ⟨S2x8x1024x64, .f32⟩
  | 46 => ⟨S2x8x1024x64, .f32⟩
  | 47 => ⟨S_, .f32⟩
  | 48 => ⟨S8x64, .f32⟩
  | 49 => ⟨S8x64, .f32⟩
  | 50 => ⟨S8x1x64, .f32⟩
  | 51 => ⟨S1x8x1x64, .f32⟩
  | 52 => ⟨S2x8x1024x64, .f32⟩
  | 53 => ⟨S2x8x1024x64, .f32⟩
  | 54 => ⟨S1024x8, .f32⟩
  | 55 => ⟨S2x1024x8, .f32⟩
  | 56 => ⟨S2x1024x8, .f32⟩
  | 57 => ⟨S2x1024x8, .f32⟩
  | 58 => ⟨S_, .f32⟩
  | 59 => ⟨S2x1024x8, .f32⟩
  | 60 => ⟨S2x1024x8, .f32⟩
  | 61 => ⟨S_, .f32⟩
  | 62 => ⟨S2x1024x8, .f32⟩
  | 63 => ⟨S2x1024x8, .f32⟩
  | 64 => ⟨S2x8x1024, .f32⟩
  | 65 => ⟨S2x8x1024x1, .f32⟩
  | 66 => ⟨S2x8x1024x64, .f32⟩
  | 67 => ⟨S2x8x1024x64, .f32⟩
  | 68 => ⟨S2x1024x8x64, .f32⟩
  | 69 => ⟨S2x1024x512, .f32⟩
  | 70 => ⟨S512x1024, .f32⟩
  | 71 => ⟨S2x1024x1024, .f32⟩
  | _ => ⟨S2x1024x1024, .f32⟩

abbrev hbmTy (i : Nat) : BufTy := match i / 128 with
  | 0 => hbmTy0_0 i
  | 1 => hbmTy0_1 i
  | 2 => hbmTy0_2 i
  | 3 => hbmTy0_3 i
  | _ => ⟨S2x1024x1024, .f32⟩

abbrev bufTy : (tb : Table) → Fin (tcTables nBuf tb) → BufTy
  | .hbm, ⟨i, _⟩ => hbmTy i
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_c : Ref sig .tc := ⟨.hbm, 24, rfl⟩
abbrev main_call0_v0 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_c_0 : Ref sig .tc := ⟨.hbm, 64, rfl⟩
abbrev main_call1_v0 : Ref sig .tc := ⟨.hbm, 65, rfl⟩
abbrev main_v39 : Ref sig .tc := ⟨.hbm, 66, rfl⟩
abbrev main_cst_1 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_c_2 : Ref sig .tc := ⟨.hbm, 104, rfl⟩
abbrev main_call2_v0 : Ref sig .tc := ⟨.hbm, 105, rfl⟩
abbrev main_v76 : Ref sig .tc := ⟨.hbm, 106, rfl⟩
abbrev main_cst_3 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_cst_4 : Ref sig .tc := ⟨.hbm, 149, rfl⟩
abbrev main_v118 : Ref sig .tc := ⟨.hbm, 150, rfl⟩
abbrev main_v119 : Ref sig .tc := ⟨.hbm, 151, rfl⟩
abbrev main_cst_5 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_6 : Ref sig .tc := ⟨.hbm, 163, rfl⟩
abbrev main_v130 : Ref sig .tc := ⟨.hbm, 164, rfl⟩
abbrev main_v131 : Ref sig .tc := ⟨.hbm, 165, rfl⟩
abbrev main_cst_7 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_8 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_cst_9 : Ref sig .tc := ⟨.hbm, 180, rfl⟩
abbrev main_v144 : Ref sig .tc := ⟨.hbm, 181, rfl⟩
abbrev main_v145 : Ref sig .tc := ⟨.hbm, 182, rfl⟩
abbrev main_cst_10 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_cst_11 : Ref sig .tc := ⟨.hbm, 194, rfl⟩
abbrev main_v156 : Ref sig .tc := ⟨.hbm, 195, rfl⟩
abbrev main_v157 : Ref sig .tc := ⟨.hbm, 196, rfl⟩
abbrev main_cst_12 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_c_13 : Ref sig .tc := ⟨.hbm, 211, rfl⟩
abbrev main_call3_v0 : Ref sig .tc := ⟨.hbm, 212, rfl⟩
abbrev main_v171 : Ref sig .tc := ⟨.hbm, 213, rfl⟩
abbrev main_c_14 : Ref sig .tc := ⟨.hbm, 214, rfl⟩
abbrev main_call4_v0 : Ref sig .tc := ⟨.hbm, 215, rfl⟩
abbrev main_v172 : Ref sig .tc := ⟨.hbm, 216, rfl⟩
abbrev main_c_15 : Ref sig .tc := ⟨.hbm, 217, rfl⟩
abbrev main_call5_v0 : Ref sig .tc := ⟨.hbm, 218, rfl⟩
abbrev main_v173 : Ref sig .tc := ⟨.hbm, 219, rfl⟩
abbrev main_cst_16 : Ref sig .tc := ⟨.hbm, 220, rfl⟩
abbrev main_v174 : Ref sig .tc := ⟨.hbm, 221, rfl⟩
abbrev main_cst_17 : Ref sig .tc := ⟨.hbm, 222, rfl⟩
abbrev main_v175 : Ref sig .tc := ⟨.hbm, 223, rfl⟩
abbrev main_c_18 : Ref sig .tc := ⟨.hbm, 224, rfl⟩
abbrev main_c_19 : Ref sig .tc := ⟨.hbm, 225, rfl⟩
abbrev main_v176_0 : Ref sig .tc := ⟨.hbm, 226, rfl⟩
abbrev main_v176_1 : Ref sig .tc := ⟨.hbm, 227, rfl⟩
abbrev main_v176_2 : Ref sig .tc := ⟨.hbm, 228, rfl⟩
abbrev main_v176_3 : Ref sig .tc := ⟨.hbm, 229, rfl⟩
abbrev main_v176_4 : Ref sig .tc := ⟨.hbm, 230, rfl⟩
abbrev main_v176_5 : Ref sig .tc := ⟨.hbm, 231, rfl⟩
abbrev main_v176_6 : Ref sig .tc := ⟨.hbm, 232, rfl⟩
abbrev main_v176_7 : Ref sig .tc := ⟨.hbm, 233, rfl⟩
abbrev main_v176_8 : Ref sig .tc := ⟨.hbm, 234, rfl⟩
abbrev main_v176_9 : Ref sig .tc := ⟨.hbm, 235, rfl⟩
abbrev main_v176_10 : Ref sig .tc := ⟨.hbm, 236, rfl⟩
abbrev main_v176_11 : Ref sig .tc := ⟨.hbm, 237, rfl⟩
abbrev main_v176_12 : Ref sig .tc := ⟨.hbm, 238, rfl⟩
abbrev main_while0c_c_38 : Ref sig .tc := ⟨.hbm, 239, rfl⟩
abbrev main_while0c_v209 : Ref sig .tc := ⟨.hbm, 240, rfl⟩
abbrev main_while0b_c_38 : Ref sig .tc := ⟨.hbm, 241, rfl⟩
abbrev main_while0b_v209 : Ref sig .tc := ⟨.hbm, 242, rfl⟩
abbrev main_while0b_c_39 : Ref sig .tc := ⟨.hbm, 243, rfl⟩
abbrev main_while0b_v210 : Ref sig .tc := ⟨.hbm, 244, rfl⟩
abbrev main_while0b_c_40 : Ref sig .tc := ⟨.hbm, 245, rfl⟩
abbrev main_while0b_v211 : Ref sig .tc := ⟨.hbm, 246, rfl⟩
abbrev main_while0b_v212 : Ref sig .tc := ⟨.hbm, 247, rfl⟩
abbrev main_while0b_c_41 : Ref sig .tc := ⟨.hbm, 248, rfl⟩
abbrev main_while0b_v213 : Ref sig .tc := ⟨.hbm, 249, rfl⟩
abbrev main_while0b_v214 : Ref sig .tc := ⟨.hbm, 250, rfl⟩
abbrev main_while0b_c_42 : Ref sig .tc := ⟨.hbm, 251, rfl⟩
abbrev main_while0b_v215 : Ref sig .tc := ⟨.hbm, 252, rfl⟩
abbrev main_while0b_v216 : Ref sig .tc := ⟨.hbm, 253, rfl⟩
abbrev main_while0b_c_43 : Ref sig .tc := ⟨.hbm, 254, rfl⟩
abbrev main_while0b_c_44 : Ref sig .tc := ⟨.hbm, 255, rfl⟩
abbrev main_while0b_c_45 : Ref sig .tc := ⟨.hbm, 256, rfl⟩
abbrev main_while0b_v217 : Ref sig .tc := ⟨.hbm, 257, rfl⟩
abbrev main_while0b_c_46 : Ref sig .tc := ⟨.hbm, 258, rfl⟩
abbrev main_while0b_v218 : Ref sig .tc := ⟨.hbm, 259, rfl⟩
abbrev main_while0b_v219 : Ref sig .tc := ⟨.hbm, 260, rfl⟩
abbrev main_while0b_c_47 : Ref sig .tc := ⟨.hbm, 261, rfl⟩
abbrev main_while0b_v220 : Ref sig .tc := ⟨.hbm, 262, rfl⟩
abbrev main_while0b_v221 : Ref sig .tc := ⟨.hbm, 263, rfl⟩
abbrev main_while0b_c_48 : Ref sig .tc := ⟨.hbm, 264, rfl⟩
abbrev main_while0b_c_49 : Ref sig .tc := ⟨.hbm, 265, rfl⟩
abbrev main_while0b_c_50 : Ref sig .tc := ⟨.hbm, 266, rfl⟩
abbrev main_while0b_v222 : Ref sig .tc := ⟨.hbm, 267, rfl⟩
abbrev main_while0b_c_51 : Ref sig .tc := ⟨.hbm, 268, rfl⟩
abbrev main_while0b_v223 : Ref sig .tc := ⟨.hbm, 269, rfl⟩
abbrev main_while0b_v224 : Ref sig .tc := ⟨.hbm, 270, rfl⟩
abbrev main_while0b_c_52 : Ref sig .tc := ⟨.hbm, 271, rfl⟩
abbrev main_while0b_v225 : Ref sig .tc := ⟨.hbm, 272, rfl⟩
abbrev main_while0b_v226 : Ref sig .tc := ⟨.hbm, 273, rfl⟩
abbrev main_while0b_c_53 : Ref sig .tc := ⟨.hbm, 274, rfl⟩
abbrev main_while0b_c_54 : Ref sig .tc := ⟨.hbm, 275, rfl⟩
abbrev main_while0b_v227 : Ref sig .tc := ⟨.hbm, 276, rfl⟩
abbrev main_while0b_v228 : Ref sig .tc := ⟨.hbm, 277, rfl⟩
abbrev main_while0b_v229 : Ref sig .tc := ⟨.hbm, 278, rfl⟩
abbrev main_while0b_v230 : Ref sig .tc := ⟨.hbm, 279, rfl⟩
abbrev main_while0b_v231 : Ref sig .tc := ⟨.hbm, 280, rfl⟩
abbrev main_while0b_c_55 : Ref sig .tc := ⟨.hbm, 281, rfl⟩
abbrev main_while0b_v232 : Ref sig .tc := ⟨.hbm, 282, rfl⟩
abbrev main_while0b_v233 : Ref sig .tc := ⟨.hbm, 283, rfl⟩
abbrev main_while0b_cst_56 : Ref sig .tc := ⟨.hbm, 284, rfl⟩
abbrev main_while0b_call7_v0 : Ref sig .tc := ⟨.hbm, 285, rfl⟩
abbrev main_while0b_call7_v1 : Ref sig .tc := ⟨.hbm, 286, rfl⟩
abbrev main_while0b_call7_v2 : Ref sig .tc := ⟨.hbm, 287, rfl⟩
abbrev main_while0b_v234 : Ref sig .tc := ⟨.hbm, 288, rfl⟩
abbrev main_while0b_v235 : Ref sig .tc := ⟨.hbm, 289, rfl⟩
abbrev main_while0b_v236 : Ref sig .tc := ⟨.hbm, 290, rfl⟩
abbrev main_while0b_v237 : Ref sig .tc := ⟨.hbm, 291, rfl⟩
abbrev main_while0b_cst_57 : Ref sig .tc := ⟨.hbm, 292, rfl⟩
abbrev main_while0b_v238 : Ref sig .tc := ⟨.hbm, 293, rfl⟩
abbrev main_while0b_v239 : Ref sig .tc := ⟨.hbm, 294, rfl⟩
abbrev main_while0b_v240 : Ref sig .tc := ⟨.hbm, 295, rfl⟩
abbrev main_while0b_v241 : Ref sig .tc := ⟨.hbm, 296, rfl⟩
abbrev main_while0b_v242 : Ref sig .tc := ⟨.hbm, 297, rfl⟩
abbrev main_while0b_c_58 : Ref sig .tc := ⟨.hbm, 298, rfl⟩
abbrev main_while0b_v243 : Ref sig .tc := ⟨.hbm, 299, rfl⟩
abbrev main_while0b_v244 : Ref sig .tc := ⟨.hbm, 300, rfl⟩
abbrev main_while0b_c_59 : Ref sig .tc := ⟨.hbm, 301, rfl⟩
abbrev main_while0b_v245 : Ref sig .tc := ⟨.hbm, 302, rfl⟩
abbrev main_while0b_v246 : Ref sig .tc := ⟨.hbm, 303, rfl⟩
abbrev main_while0b_c_60 : Ref sig .tc := ⟨.hbm, 304, rfl⟩
abbrev main_while0b_c_61 : Ref sig .tc := ⟨.hbm, 305, rfl⟩
abbrev main_while0b_v247 : Ref sig .tc := ⟨.hbm, 306, rfl⟩
abbrev main_while0b_v248 : Ref sig .tc := ⟨.hbm, 307, rfl⟩
abbrev main_while0b_v249 : Ref sig .tc := ⟨.hbm, 308, rfl⟩
abbrev main_while0b_v250 : Ref sig .tc := ⟨.hbm, 309, rfl⟩
abbrev main_while0b_c_62 : Ref sig .tc := ⟨.hbm, 310, rfl⟩
abbrev main_while0b_v251 : Ref sig .tc := ⟨.hbm, 311, rfl⟩
abbrev main_while0b_v252 : Ref sig .tc := ⟨.hbm, 312, rfl⟩
abbrev main_while0b_c_63 : Ref sig .tc := ⟨.hbm, 313, rfl⟩
abbrev main_while0b_v253 : Ref sig .tc := ⟨.hbm, 314, rfl⟩
abbrev main_while0b_v254 : Ref sig .tc := ⟨.hbm, 315, rfl⟩
abbrev main_while0b_c_64 : Ref sig .tc := ⟨.hbm, 316, rfl⟩
abbrev main_while0b_c_65 : Ref sig .tc := ⟨.hbm, 317, rfl⟩
abbrev main_while0b_v255 : Ref sig .tc := ⟨.hbm, 318, rfl⟩
abbrev main_while0b_v256 : Ref sig .tc := ⟨.hbm, 319, rfl⟩
abbrev main_while0b_v257 : Ref sig .tc := ⟨.hbm, 320, rfl⟩
abbrev main_while0b_v258 : Ref sig .tc := ⟨.hbm, 321, rfl⟩
abbrev main_while0b_v259 : Ref sig .tc := ⟨.hbm, 322, rfl⟩
abbrev main_while0b_c_66 : Ref sig .tc := ⟨.hbm, 323, rfl⟩
abbrev main_while0b_v260 : Ref sig .tc := ⟨.hbm, 324, rfl⟩
abbrev main_while0b_v261 : Ref sig .tc := ⟨.hbm, 325, rfl⟩
abbrev main_while0b_c_67 : Ref sig .tc := ⟨.hbm, 326, rfl⟩
abbrev main_while0b_v262 : Ref sig .tc := ⟨.hbm, 327, rfl⟩
abbrev main_while0b_v263 : Ref sig .tc := ⟨.hbm, 328, rfl⟩
abbrev main_while0b_c_68 : Ref sig .tc := ⟨.hbm, 329, rfl⟩
abbrev main_while0b_c_69 : Ref sig .tc := ⟨.hbm, 330, rfl⟩
abbrev main_while0b_v264 : Ref sig .tc := ⟨.hbm, 331, rfl⟩
abbrev main_while0b_v265 : Ref sig .tc := ⟨.hbm, 332, rfl⟩
abbrev main_while0b_v266 : Ref sig .tc := ⟨.hbm, 333, rfl⟩
abbrev main_while0b_v267 : Ref sig .tc := ⟨.hbm, 334, rfl⟩
abbrev main_while0b_v268 : Ref sig .tc := ⟨.hbm, 335, rfl⟩
abbrev main_while0b_cst_70 : Ref sig .tc := ⟨.hbm, 336, rfl⟩
abbrev main_while0b_v269 : Ref sig .tc := ⟨.hbm, 337, rfl⟩
abbrev main_while0b_v270 : Ref sig .tc := ⟨.hbm, 338, rfl⟩
abbrev main_while0b_cst_71 : Ref sig .tc := ⟨.hbm, 339, rfl⟩
abbrev main_while0b_v271 : Ref sig .tc := ⟨.hbm, 340, rfl⟩
abbrev main_while0b_v272 : Ref sig .tc := ⟨.hbm, 341, rfl⟩
abbrev main_while0b_v273 : Ref sig .tc := ⟨.hbm, 342, rfl⟩
abbrev main_while0b_cst_72 : Ref sig .tc := ⟨.hbm, 343, rfl⟩
abbrev main_while0b_v274 : Ref sig .tc := ⟨.hbm, 344, rfl⟩
abbrev main_while0b_v275 : Ref sig .tc := ⟨.hbm, 345, rfl⟩
abbrev main_while0b_cst_73 : Ref sig .tc := ⟨.hbm, 346, rfl⟩
abbrev main_while0b_v276 : Ref sig .tc := ⟨.hbm, 347, rfl⟩
abbrev main_while0b_v277 : Ref sig .tc := ⟨.hbm, 348, rfl⟩
abbrev main_while0b_v278 : Ref sig .tc := ⟨.hbm, 349, rfl⟩
abbrev main_while0b_v279 : Ref sig .tc := ⟨.hbm, 350, rfl⟩
abbrev main_while0b_v280 : Ref sig .tc := ⟨.hbm, 351, rfl⟩
abbrev main_while0b_v281 : Ref sig .tc := ⟨.hbm, 352, rfl⟩
abbrev main_while0b_cst_74 : Ref sig .tc := ⟨.hbm, 353, rfl⟩
abbrev main_while0b_v282 : Ref sig .tc := ⟨.hbm, 354, rfl⟩
abbrev main_while0b_v283 : Ref sig .tc := ⟨.hbm, 355, rfl⟩
abbrev main_while0b_v284 : Ref sig .tc := ⟨.hbm, 356, rfl⟩
abbrev main_while0b_cst_75 : Ref sig .tc := ⟨.hbm, 357, rfl⟩
abbrev main_while0b_v285 : Ref sig .tc := ⟨.hbm, 358, rfl⟩
abbrev main_while0b_v286 : Ref sig .tc := ⟨.hbm, 359, rfl⟩
abbrev main_while0b_v287 : Ref sig .tc := ⟨.hbm, 360, rfl⟩
abbrev main_while0b_cst_76 : Ref sig .tc := ⟨.hbm, 361, rfl⟩
abbrev main_while0b_v288 : Ref sig .tc := ⟨.hbm, 362, rfl⟩
abbrev main_while0b_v289 : Ref sig .tc := ⟨.hbm, 363, rfl⟩
abbrev main_while0b_v290 : Ref sig .tc := ⟨.hbm, 364, rfl⟩
abbrev main_while0b_v291 : Ref sig .tc := ⟨.hbm, 365, rfl⟩
abbrev main_while0b_v292 : Ref sig .tc := ⟨.hbm, 366, rfl⟩
abbrev main_while0b_v293 : Ref sig .tc := ⟨.hbm, 367, rfl⟩
abbrev main_while0b_cst_77 : Ref sig .tc := ⟨.hbm, 368, rfl⟩
abbrev main_while0b_v294 : Ref sig .tc := ⟨.hbm, 369, rfl⟩
abbrev main_while0b_v295 : Ref sig .tc := ⟨.hbm, 370, rfl⟩
abbrev main_while0b_v296 : Ref sig .tc := ⟨.hbm, 371, rfl⟩
abbrev main_while0b_cst_78 : Ref sig .tc := ⟨.hbm, 372, rfl⟩
abbrev main_while0b_v297 : Ref sig .tc := ⟨.hbm, 373, rfl⟩
abbrev main_while0b_v298 : Ref sig .tc := ⟨.hbm, 374, rfl⟩
abbrev main_while0b_v299 : Ref sig .tc := ⟨.hbm, 375, rfl⟩
abbrev main_while0b_cst_79 : Ref sig .tc := ⟨.hbm, 376, rfl⟩
abbrev main_while0b_v300 : Ref sig .tc := ⟨.hbm, 377, rfl⟩
abbrev main_while0b_v301 : Ref sig .tc := ⟨.hbm, 378, rfl⟩
abbrev main_while0b_v302 : Ref sig .tc := ⟨.hbm, 379, rfl⟩
abbrev main_while0b_v303 : Ref sig .tc := ⟨.hbm, 380, rfl⟩
abbrev main_while0b_v304 : Ref sig .tc := ⟨.hbm, 381, rfl⟩
abbrev main_while0b_v305 : Ref sig .tc := ⟨.hbm, 382, rfl⟩
abbrev main_while0b_cst_80 : Ref sig .tc := ⟨.hbm, 383, rfl⟩
abbrev main_while0b_v306 : Ref sig .tc := ⟨.hbm, 384, rfl⟩
abbrev main_while0b_v307 : Ref sig .tc := ⟨.hbm, 385, rfl⟩
abbrev main_while0b_v308 : Ref sig .tc := ⟨.hbm, 386, rfl⟩
abbrev main_while0b_cst_81 : Ref sig .tc := ⟨.hbm, 387, rfl⟩
abbrev main_while0b_v309 : Ref sig .tc := ⟨.hbm, 388, rfl⟩
abbrev main_while0b_v310 : Ref sig .tc := ⟨.hbm, 389, rfl⟩
abbrev main_while0b_v311 : Ref sig .tc := ⟨.hbm, 390, rfl⟩
abbrev main_while0b_cst_82 : Ref sig .tc := ⟨.hbm, 391, rfl⟩
abbrev main_while0b_v312 : Ref sig .tc := ⟨.hbm, 392, rfl⟩
abbrev main_while0b_v313 : Ref sig .tc := ⟨.hbm, 393, rfl⟩
abbrev main_while0b_v314 : Ref sig .tc := ⟨.hbm, 394, rfl⟩
abbrev main_while0b_v315 : Ref sig .tc := ⟨.hbm, 395, rfl⟩
abbrev main_while0b_v316 : Ref sig .tc := ⟨.hbm, 396, rfl⟩
abbrev main_while0b_c_83 : Ref sig .tc := ⟨.hbm, 397, rfl⟩
abbrev main_while0b_v317 : Ref sig .tc := ⟨.hbm, 398, rfl⟩
abbrev main_while0b_v318 : Ref sig .tc := ⟨.hbm, 399, rfl⟩
abbrev main_while0b_c_84 : Ref sig .tc := ⟨.hbm, 400, rfl⟩
abbrev main_while0b_v319 : Ref sig .tc := ⟨.hbm, 401, rfl⟩
abbrev main_while0b_v320 : Ref sig .tc := ⟨.hbm, 402, rfl⟩
abbrev main_while0b_c_85 : Ref sig .tc := ⟨.hbm, 403, rfl⟩
abbrev main_while0b_c_86 : Ref sig .tc := ⟨.hbm, 404, rfl⟩
abbrev main_while0b_c_87 : Ref sig .tc := ⟨.hbm, 405, rfl⟩
abbrev main_while0b_v321 : Ref sig .tc := ⟨.hbm, 406, rfl⟩
abbrev main_while0b_v322 : Ref sig .tc := ⟨.hbm, 407, rfl⟩
abbrev main_while0b_v323 : Ref sig .tc := ⟨.hbm, 408, rfl⟩
abbrev main_while0b_v324 : Ref sig .tc := ⟨.hbm, 409, rfl⟩
abbrev main_while0b_v325 : Ref sig .tc := ⟨.hbm, 410, rfl⟩
abbrev main_while0b_v326 : Ref sig .tc := ⟨.hbm, 411, rfl⟩
abbrev main_while0b_v327 : Ref sig .tc := ⟨.hbm, 412, rfl⟩
abbrev main_while0b_call8_v0 : Ref sig .tc := ⟨.hbm, 413, rfl⟩
abbrev main_while0b_call8_v1 : Ref sig .tc := ⟨.hbm, 414, rfl⟩
abbrev main_while0b_v328 : Ref sig .tc := ⟨.hbm, 415, rfl⟩
abbrev main_while0b_c_88 : Ref sig .tc := ⟨.hbm, 416, rfl⟩
abbrev main_while0b_v329 : Ref sig .tc := ⟨.hbm, 417, rfl⟩
abbrev main_v177 : Ref sig .tc := ⟨.hbm, 418, rfl⟩
abbrev main_cst_20 : Ref sig .tc := ⟨.hbm, 419, rfl⟩
abbrev main_v178 : Ref sig .tc := ⟨.hbm, 420, rfl⟩
abbrev main_v179 : Ref sig .tc := ⟨.hbm, 421, rfl⟩
abbrev main_cst_21 : Ref sig .tc := ⟨.hbm, 422, rfl⟩
abbrev main_v180 : Ref sig .tc := ⟨.hbm, 423, rfl⟩
abbrev main_v181 : Ref sig .tc := ⟨.hbm, 424, rfl⟩
abbrev main_cst_22 : Ref sig .tc := ⟨.hbm, 425, rfl⟩
abbrev main_v182 : Ref sig .tc := ⟨.hbm, 426, rfl⟩
abbrev main_v183 : Ref sig .tc := ⟨.hbm, 427, rfl⟩
abbrev main_v184 : Ref sig .tc := ⟨.hbm, 428, rfl⟩
abbrev main_v185 : Ref sig .tc := ⟨.hbm, 429, rfl⟩
abbrev main_v186 : Ref sig .tc := ⟨.hbm, 430, rfl⟩
abbrev main_cst_23 : Ref sig .tc := ⟨.hbm, 431, rfl⟩
abbrev main_v187 : Ref sig .tc := ⟨.hbm, 432, rfl⟩
abbrev main_v188 : Ref sig .tc := ⟨.hbm, 433, rfl⟩
abbrev main_v189 : Ref sig .tc := ⟨.hbm, 434, rfl⟩
abbrev main_v190 : Ref sig .tc := ⟨.hbm, 435, rfl⟩
abbrev main_v191 : Ref sig .tc := ⟨.hbm, 436, rfl⟩
abbrev main_v192 : Ref sig .tc := ⟨.hbm, 437, rfl⟩
abbrev main_v193 : Ref sig .tc := ⟨.hbm, 438, rfl⟩
abbrev main_v194 : Ref sig .tc := ⟨.hbm, 439, rfl⟩
abbrev main_v195 : Ref sig .tc := ⟨.hbm, 440, rfl⟩
abbrev main_v196 : Ref sig .tc := ⟨.hbm, 441, rfl⟩
abbrev main_cst_24 : Ref sig .tc := ⟨.hbm, 442, rfl⟩
abbrev main_v197 : Ref sig .tc := ⟨.hbm, 443, rfl⟩
abbrev main_v198 : Ref sig .tc := ⟨.hbm, 444, rfl⟩
abbrev main_cst_25 : Ref sig .tc := ⟨.hbm, 445, rfl⟩
abbrev main_v199 : Ref sig .tc := ⟨.hbm, 446, rfl⟩
abbrev main_v200 : Ref sig .tc := ⟨.hbm, 447, rfl⟩
abbrev main_v201 : Ref sig .tc := ⟨.hbm, 448, rfl⟩
abbrev main_v202 : Ref sig .tc := ⟨.hbm, 449, rfl⟩
abbrev main_v203 : Ref sig .tc := ⟨.hbm, 450, rfl⟩
abbrev main_v204 : Ref sig .tc := ⟨.hbm, 451, rfl⟩
abbrev main_v205 : Ref sig .tc := ⟨.hbm, 452, rfl⟩
abbrev main_v206 : Ref sig .tc := ⟨.hbm, 453, rfl⟩
abbrev main_v207 : Ref sig .tc := ⟨.hbm, 454, rfl⟩
abbrev main_v208 : Ref sig .tc := ⟨.hbm, 455, rfl⟩

abbrev nD : Nat := 1
abbrev τ : Topo := Topo.v7x

variable {F : FTy → Type} [FloatOps F]

abbrev main_while0_count : Scf.Loop 32 := ⟨0#32, 1024#32, 1#32⟩
-- ==== Proof.Lift.lean ====
/-
  Arrays of real numbers read as arrays of extended reals, and the scalar operations of the ideal instance on real
  arguments: the vocabulary in which the kernel's and the reference's values are stated.
-/
module

public import Idealize.ShloMosaic.Lib.Pointwise
public import Idealize.ShloMosaic.PureOps.Ideal

@[expose] public section

noncomputable section

namespace Cert.Proof

open Idealize.ShloMosaic
open scoped BigOperators

/-- The rank-1 array of the real numbers `f a`. -/
def T1 {φ : FTy} {n0 : ℕ} (f : Fin n0 → ℝ) : FVec Ideal ⟨1, ![n0]⟩ φ := fun i => ((f (i 0) : ℝ) : EReal)
/-- The rank-2 array of the real numbers `f a b`. -/
def T2 {φ : FTy} {n0 n1 : ℕ} (f : Fin n0 → Fin n1 → ℝ) : FVec Ideal ⟨2, ![n0, n1]⟩ φ :=
  fun i => ((f (i 0) (i 1) : ℝ) : EReal)
/-- The rank-3 array of the real numbers `f a b c`. -/
def T3 {φ : FTy} {n0 n1 n2 : ℕ} (f : Fin n0 → Fin n1 → Fin n2 → ℝ) : FVec Ideal ⟨3, ![n0, n1, n2]⟩ φ :=
  fun i => ((f (i 0) (i 1) (i 2) : ℝ) : EReal)
/-- The rank-4 array of the real numbers `f a b c d`. -/
def T4 {φ : FTy} {n0 n1 n2 n3 : ℕ} (f : Fin n0 → Fin n1 → Fin n2 → Fin n3 → ℝ) :
    FVec Ideal ⟨4, ![n0, n1, n2, n3]⟩ φ :=
  fun i => ((f (i 0) (i 1) (i 2) (i 3) : ℝ) : EReal)

theorem T1_ix {φ : FTy} {n0 : ℕ} (f : Fin n0 → ℝ) (a : Fin n0) : T1 (φ := φ) f (ix1 a) = ((f a : ℝ) : EReal) := rfl
theorem T2_ix {φ : FTy} {n0 n1 : ℕ} (f : Fin n0 → Fin n1 → ℝ) (a : Fin n0) (b : Fin n1) :
    T2 (φ := φ) f (ix2 a b) = ((f a b : ℝ) : EReal) := rfl
theorem T3_ix {φ : FTy} {n0 n1 n2 : ℕ} (f : Fin n0 → Fin n1 → Fin n2 → ℝ) (a : Fin n0) (b : Fin n1) (c : Fin n2) :
    T3 (φ := φ) f (ix3 a b c) = ((f a b c : ℝ) : EReal) := rfl
theorem T4_ix {φ : FTy} {n0 n1 n2 n3 : ℕ} (f : Fin n0 → Fin n1 → Fin n2 → Fin n3 → ℝ) (a : Fin n0) (b : Fin n1)
    (c : Fin n2) (d : Fin n3) : T4 (φ := φ) f (ix4 a b c d) = ((f a b c d : ℝ) : EReal) := rfl

/-- Two rank-1 arrays that agree at every coordinate are one. -/
theorem ext1 {φ : FTy} {n0 : ℕ} {x y : FVec Ideal ⟨1, ![n0]⟩ φ} (h : ∀ a, x (ix1 a) = y (ix1 a)) : x = y :=
  funext fun j => by rw [eq_ix1 j]; exact h _
/-- Two rank-2 arrays that agree at every pair of coordinates are one. -/
theorem ext2 {φ : FTy} {n0 n1 : ℕ} {x y : FVec Ideal ⟨2, ![n0, n1]⟩ φ} (h : ∀ a b, x (ix2 a b) = y (ix2 a b)) :
    x = y :=
  funext fun j => by rw [eq_ix2 j]; exact h _ _
/-- Two rank-3 arrays that agree at all coordinates are one. -/
theorem ext3 {φ : FTy} {n0 n1 n2 : ℕ} {x y : FVec Ideal ⟨3, ![n0, n1, n2]⟩ φ}
    (h : ∀ a b c, x (ix3 a b c) = y (ix3 a b c)) : x = y :=
  funext fun j => by rw [eq_ix3 j]; exact h _ _ _
/-- Two rank-4 arrays that agree at all coordinates are one. -/
theorem ext4 {φ : FTy} {n0 n1 n2 n3 : ℕ} {x y : FVec Ideal ⟨4, ![n0, n1, n2, n3]⟩ φ}
    (h : ∀ a b c d, x (ix4 a b c d) = y (ix4 a b c d)) : x = y :=
  funext fun j => by rw [eq_ix4 j]; exact h _ _ _ _

/-! ### Real numbers among the extended reals -/

/-- A finite sum of real numbers, read as an extended real, is the sum of the terms so read. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem add_coe (x y : ℝ) : (x : EReal) + (y : EReal) = ((x + y : ℝ) : EReal) := (EReal.coe_add x y).symm
theorem mul_coe (x y : ℝ) : (x : EReal) * (y : EReal) = ((x * y : ℝ) : EReal) := (EReal.coe_mul x y).symm
theorem sub_coe (x y : ℝ) : (x : EReal) - (y : EReal) = ((x - y : ℝ) : EReal) := (EReal.coe_sub x y).symm
theorem neg_coe (x : ℝ) : -(x : EReal) = ((-x : ℝ) : EReal) := (EReal.coe_neg x).symm
theorem zero_coe : (0 : EReal) = ((0 : ℝ) : EReal) := rfl
theorem one_coe : (1 : EReal) = ((1 : ℝ) : EReal) := rfl

/-- A choice between two real numbers. -/
theorem ite_coe (p : Prop) [Decidable p] (x y : ℝ) : (if p then (x : EReal) else (y : EReal)) = ((if p then x else y : ℝ) : EReal) := by
  split <;> rfl

/-- Division of real numbers by a nonzero one. -/
theorem div_coe (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem exp_coe (x : ℝ) : Ideal.exp (x : EReal) = ((Real.exp x : ℝ) : EReal) := rfl

/-- The square root of a nonnegative real number. -/
theorem sqrt_coe (x : ℝ) (h : 0 ≤ x) : Ideal.sqrt (x : EReal) = ((Real.sqrt x : ℝ) : EReal) := by
  show (if x < 0 then ⊥ else (Real.sqrt x : EReal)) = _
  rw [if_neg (not_lt.2 h)]

/-- The reciprocal square root of a positive real number. -/
theorem rsqrt_coe (x : ℝ) (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.2 h.le), if_neg h.ne']

/-- `log (1 + e^x)` of a real `x`. -/
theorem log1p_exp_coe (x : ℝ) : Ideal.log1p ((Real.exp x : ℝ) : EReal) = ((Real.log (1 + Real.exp x) : ℝ) : EReal) := by
  unfold Ideal.log1p
  rw [one_coe, add_coe]
  show (if 1 + Real.exp x ≤ 0 then ⊥ else (Real.log (1 + Real.exp x) : EReal)) = _
  rw [if_neg (not_le.2 (by positivity))]

/-- The logistic function on the reals. -/
def sg (x : ℝ) : ℝ := 1 / (1 + Real.exp (-x))

theorem one_add_exp_ne (x : ℝ) : 1 + Real.exp x ≠ 0 := by positivity

theorem sg_coe (x : ℝ) : Ideal.div 1 (((1 + Real.exp (-x) : ℝ)) : EReal) = ((sg x : ℝ) : EReal) := by
  rw [one_coe, div_coe _ _ (one_add_exp_ne _)]; rfl

theorem logistic_coe (x : ℝ) : Ideal.logistic (x : EReal) = ((sg x : ℝ) : EReal) := by
  unfold Ideal.logistic
  rw [neg_coe, exp_coe, one_coe, add_coe, ← one_coe, sg_coe]

/-- The logarithm of the logistic function, as the kernel computes it. -/
def lsg (x : ℝ) : ℝ := if 0 ≤ x then 0 - Real.log (1 + Real.exp (0 - x)) else x - Real.log (1 + Real.exp x)

theorem sg_pos (x : ℝ) : 0 < sg x := by unfold sg; positivity

/-- It is the logarithm: its exponential is the logistic function. -/
theorem exp_lsg (x : ℝ) : Real.exp (lsg x) = sg x := by
  have h1 : (0 : ℝ) < 1 + Real.exp (-x) := by positivity
  have h2 : (0 : ℝ) < 1 + Real.exp x := by positivity
  unfold lsg sg
  split
  · rw [zero_sub, zero_sub, Real.exp_neg, Real.exp_log h1, one_div]
  · rw [Real.exp_sub, Real.exp_log h2, div_eq_div_iff h2.ne' h1.ne', mul_add, ← Real.exp_add]
    simp [add_comm]

/-- The comparison `x ≥ 0` on a real number. -/
theorem cmp_oge_coe (x : ℝ) : Ideal.cmp .oge (x : EReal) ((0 : ℝ) : EReal) = 1#1 ↔ 0 ≤ x := by
  unfold Ideal.cmp
  simp only [EReal.coe_le_coe_iff]
  by_cases h : 0 ≤ x <;> simp [h]

/-! ### Literals -/

/-- The real number that a single-precision word of finite value denotes. -/
def lit (b : BitVec 32) : ℝ := (Ideal.ofBits .f32 b).toReal

/-- A word whose exponent field is not all ones denotes a real number. -/
theorem ofBits_lit (b : BitVec 32) (h : (b.extractLsb' 23 8).toNat ≠ 255) :
    Ideal.ofBits .f32 b = ((lit b : ℝ) : EReal) := by
  have key : ∃ r : ℝ, Ideal.ofBits .f32 b = ((r : ℝ) : EReal) := by
    show ∃ r : ℝ, Ideal.ieee 8 23 b = ((r : ℝ) : EReal)
    unfold Ideal.ieee
    simp only
    rw [if_neg (by simpa using h)]
    split
    · exact ⟨_, rfl⟩
    · exact ⟨_, rfl⟩
  obtain ⟨r, hr⟩ := key
  unfold lit
  rw [hr, EReal.toReal_coe]

theorem lit_zero : lit 0x00000000#32 = 0 := by simp [lit, Ideal.ofBits, Ideal.ieee]
theorem lit_one : lit 0x3F800000#32 = 1 := by
  unfold lit
  rw [Ideal.ofBits_one_f32]; rfl
theorem lit_two : lit 0x40000000#32 = 2 := by
  have : Ideal.ofBits .f32 0x40000000#32 = ((2 : ℝ) : EReal) := by
    simp [Ideal.ofBits, Ideal.ieee, -EReal.coe_mul]; norm_num
  unfold lit; rw [this]; rfl
theorem lit_neg_two : lit 0xC0000000#32 = -2 := by
  have : Ideal.ofBits .f32 0xC0000000#32 = ((-2 : ℝ) : EReal) := by
    simp [Ideal.ofBits, Ideal.ieee, -EReal.coe_mul]; norm_num
  unfold lit; rw [this]; rfl

theorem bits_a1 : Ideal.ofBits .f32 0x4102813F#32 = ((lit 0x4102813F#32 : ℝ) : EReal) := ofBits_lit _ (by decide)
theorem bits_b1 : Ideal.ofBits .f32 0xC1B3DDC9#32 = ((lit 0xC1B3DDC9#32 : ℝ) : EReal) := ofBits_lit _ (by decide)
theorem bits_c1 : Ideal.ofBits .f32 0x417E0F71#32 = ((lit 0x417E0F71#32 : ℝ) : EReal) := ofBits_lit _ (by decide)
theorem bits_a2 : Ideal.ofBits .f32 0x40815FAF#32 = ((lit 0x40815FAF#32 : ℝ) : EReal) := ofBits_lit _ (by decide)
theorem bits_b2 : Ideal.ofBits .f32 0xC033C54E#32 = ((lit 0xC033C54E#32 : ℝ) : EReal) := ofBits_lit _ (by decide)
theorem bits_c2 : Ideal.ofBits .f32 0x3F00012B#32 = ((lit 0x3F00012B#32 : ℝ) : EReal) := ofBits_lit _ (by decide)
theorem bits_a3 : Ideal.ofBits .f32 0x40791116#32 = ((lit 0x40791116#32 : ℝ) : EReal) := ofBits_lit _ (by decide)
theorem bits_b3 : Ideal.ofBits .f32 0xC0317061#32 = ((lit 0xC0317061#32 : ℝ) : EReal) := ofBits_lit _ (by decide)
theorem bits_c3 : Ideal.ofBits .f32 0x3F018D77#32 = ((lit 0x3F018D77#32 : ℝ) : EReal) := ofBits_lit _ (by decide)
theorem bits_e12 : Ideal.ofBits .f32 0x2B8CBCCC#32 = ((lit 0x2B8CBCCC#32 : ℝ) : EReal) := ofBits_lit _ (by decide)
theorem bits_101 : Ideal.ofBits .f32 0x3F8147AE#32 = ((lit 0x3F8147AE#32 : ℝ) : EReal) := ofBits_lit _ (by decide)
theorem bits_e6 : Ideal.ofBits .f32 0x358637BD#32 = ((lit 0x358637BD#32 : ℝ) : EReal) := ofBits_lit _ (by decide)
theorem bits_tenth : Ideal.ofBits .f32 0x3DCCCCCD#32 = ((lit 0x3DCCCCCD#32 : ℝ) : EReal) := ofBits_lit _ (by decide)
theorem bits_64 : Ideal.ofBits .f32 0x42800000#32 = ((lit 0x42800000#32 : ℝ) : EReal) := ofBits_lit _ (by decide)
theorem bits_neg_two : Ideal.ofBits .f32 0xC0000000#32 = ((-2 : ℝ) : EReal) := by
  rw [ofBits_lit _ (by decide), lit_neg_two]
theorem bits_two : Ideal.ofBits .f32 0x40000000#32 = ((2 : ℝ) : EReal) := by
  rw [ofBits_lit _ (by decide), lit_two]

/-- A word with a clear sign bit and a nonzero exponent that is not all ones denotes a positive real number. -/
theorem lit_pos (b : BitVec 32) (h : (b.extractLsb' 23 8).toNat ≠ 255) (h0 : (b.extractLsb' 23 8).toNat ≠ 0)
    (hs : ¬ (b.extractLsb' 31 1 == 1#1) = true) : 0 < lit b := by
  have key : ∃ r : ℝ, 0 < r ∧ Ideal.ofBits .f32 b = ((r : ℝ) : EReal) := by
    show ∃ r : ℝ, 0 < r ∧ Ideal.ieee 8 23 b = ((r : ℝ) : EReal)
    unfold Ideal.ieee
    simp only
    rw [if_neg (by simpa using h), if_neg h0]
    refine ⟨_, ?_, rfl⟩
    rw [if_neg hs]
    positivity
  obtain ⟨r, hp, hr⟩ := key
  unfold lit
  rw [hr, EReal.toReal_coe]; exact hp

theorem e12_pos : 0 < lit 0x2B8CBCCC#32 := lit_pos _ (by decide) (by decide) (by decide)
theorem l101_pos : 0 < lit 0x3F8147AE#32 := lit_pos _ (by decide) (by decide) (by decide)
theorem e6_pos : 0 < lit 0x358637BD#32 := lit_pos _ (by decide) (by decide) (by decide)
theorem l64_pos : 0 < lit 0x42800000#32 := lit_pos _ (by decide) (by decide) (by decide)

end Cert.Proof

end
-- ==== Proof.Maths.lean ====
module

public import proofs.«01_k».proof.Proof.Lift

@[expose] public section

noncomputable section

namespace Cert.Proof

open scoped BigOperators

/-- A 64 by 64 real matrix. -/
abbrev Mat := Fin 64 → Fin 64 → ℝ

/-- The Gram matrix of the columns. -/
def gram (x : Mat) : Mat := fun j k => ∑ e, x e j * x e k

/-- The matrix product. -/
def mm (x y : Mat) : Mat := fun e d => ∑ k, x e k * y k d

/-- `a x + x (b g + c h)`. -/
def nsWith (a b c : ℝ) (x g h : Mat) : Mat := fun e d => a * x e d + ∑ k, x e k * (b * g k d + c * h k d)

/-- One polynomial step of the orthogonalisation, on the column side. -/
def nsStep (a b c : ℝ) (x : Mat) : Mat := nsWith a b c x (gram x) (mm (gram x) (gram x))

/-- The number a state is divided by before the orthogonalisation. -/
def nrmDen (x : Mat) : ℝ :=
  Real.sqrt ((∑ e, ∑ d, x e d * x e d) + lit 0x2B8CBCCC#32) * lit 0x3F8147AE#32 + lit 0x358637BD#32

/-- The state divided by its (slightly enlarged) Frobenius norm. -/
def nrm (x : Mat) : Mat := fun e d => x e d / nrmDen x

theorem sumsq_nonneg (x : Mat) : 0 ≤ (∑ e, ∑ d, x e d * x e d) :=
  Finset.sum_nonneg fun _ _ => Finset.sum_nonneg fun _ _ => mul_self_nonneg _

theorem nrmDen_pos (x : Mat) : 0 < nrmDen x := by
  unfold nrmDen
  have h1 := e6_pos
  have h2 := l101_pos
  have h3 := Real.sqrt_nonneg ((∑ e, ∑ d, x e d * x e d) + lit 0x2B8CBCCC#32)
  positivity

/-- First step of the orthogonalisation. -/
def ns1 : Mat → Mat := nsStep (lit 0x4102813F#32) (lit 0xC1B3DDC9#32) (lit 0x417E0F71#32)
/-- Second step of the orthogonalisation. -/
def ns2 : Mat → Mat := nsStep (lit 0x40815FAF#32) (lit 0xC033C54E#32) (lit 0x3F00012B#32)
/-- Third step of the orthogonalisation. -/
def ns3 : Mat → Mat := nsStep (lit 0x40791116#32) (lit 0xC0317061#32) (lit 0x3F018D77#32)

/-- The orthogonalised state. -/
def pe (x : Mat) : Mat := ns3 (ns2 (ns1 (nrm x)))

/-- Which of the chunk's rows lie at or before row `r`. -/
def tril (r j : Fin 64) : ℝ := if j ≤ r then 1 else 0

/-- Which of the chunk's rows lie among the sixteen ending at row `r`. -/
def band (r j : Fin 64) : ℝ := if j ≤ r ∧ (r : ℕ) < (j : ℕ) + 16 then 1 else 0

/-- The running sum of the gates' logarithms within a chunk. -/
def cumz (z : Fin 64 → ℝ) (r : Fin 64) : ℝ := ∑ j, tril r j * lsg (z j)

/-- The weight of row `s` in the scanned state at row `r`. -/
def scanW (z : Fin 64 → ℝ) (r s : Fin 64) : ℝ := if s ≤ r then Real.exp (cumz z r - cumz z s) else 0

/-- The gradient weight of row `u` in the sum at row `s`. -/
def gradW (g : Fin 64 → Fin 8 → ℝ) (s u : Fin 64) : ℝ :=
  -2 * (lit 0x3DCCCCCD#32 * sg (g s 1)) * band s u * sg (g u 3)

/-- The outer product of a key and its error against the chunk's first memory. -/
def outerE (m k v : Mat) (u : Fin 64) : Mat := fun e d => k u e * ((∑ j, k u j * m j d) - v u d)

/-- The momentum state after row `r` of a chunk, in closed form. -/
def sAll (g : Fin 64 → Fin 8 → ℝ) (m st k v : Mat) (r : Fin 64) : Mat := fun e d =>
  (∑ u, (∑ s, scanW (fun t => g t 2) r s * gradW g s u) * outerE m k v u e d)
    + Real.exp (cumz (fun t => g t 2) r) * st e d

/-- The memory after row `r` of a chunk, in closed form, from the orthogonalised states `x`. -/
def mAll (z : Fin 64 → ℝ) (m : Mat) (x : Fin 64 → Mat) (r : Fin 64) : Mat := fun e d =>
  (∑ s, scanW z r s * x s e d) + Real.exp (cumz z r) * m e d

/-- The normalised, scaled and gated row that a chunk stores. -/
def yRow (lng : Fin 64 → ℝ) (y : Fin 64 → ℝ) (d : Fin 64) : ℝ :=
  y d * (Real.sqrt ((∑ j, y j * y j) / lit 0x42800000#32 + lit 0x358637BD#32))⁻¹ * (1 + lng d)

/-- The rows of chunk `c`. -/
def rows {n : ℕ} (f : ℕ → Fin n → ℝ) (c : ℕ) : Fin 64 → Fin n → ℝ := fun r d => f (64 * c + r) d

/-- The memory and momentum at the start of chunk `c`. -/
def chunkSt (g : ℕ → Fin 8 → ℝ) (k v : ℕ → Fin 64 → ℝ) : ℕ → Mat × Mat
  | 0 => (fun _ _ => 0, fun _ _ => 0)
  | c + 1 =>
    (mAll (fun r => rows g c r 0) (chunkSt g k v c).1
        (fun r => pe (sAll (rows g c) (chunkSt g k v c).1 (chunkSt g k v c).2 (rows k c) (rows v c) r)) 63,
      sAll (rows g c) (chunkSt g k v c).1 (chunkSt g k v c).2 (rows k c) (rows v c) 63)

/-- The memory after row `r` of chunk `c`. -/
def chunkM (g : ℕ → Fin 8 → ℝ) (k v : ℕ → Fin 64 → ℝ) (c : ℕ) (r : Fin 64) : Mat :=
  mAll (fun r => rows g c r 0) (chunkSt g k v c).1
    (fun r => pe (sAll (rows g c) (chunkSt g k v c).1 (chunkSt g k v c).2 (rows k c) (rows v c) r)) r

/-- The row a chunk stores. -/
def chunkY (l : Fin 64 → ℝ) (g : ℕ → Fin 8 → ℝ) (k v q : ℕ → Fin 64 → ℝ) (c : ℕ) (r d : Fin 64) : ℝ :=
  yRow l (fun d => ∑ e, chunkM g k v c r e d * rows q c r e) d * sg (rows g c r 4)

/-- The stored rows by token. -/
def outY (l : Fin 64 → ℝ) (g : ℕ → Fin 8 → ℝ) (k v q : ℕ → Fin 64 → ℝ) (t : ℕ) (d : Fin 64) : ℝ :=
  chunkY l g k v q (t / 64) ⟨t % 64, Nat.mod_lt _ (by norm_num)⟩ d

/-- A projection of the tokens. -/
def proj (x : ℕ → Fin 1024 → ℝ) (w : Fin 512 → Fin 1024 → ℝ) (t : ℕ) (i : Fin 512) : ℝ := ∑ j, x t j * w i j

/-- The tokens moved `n` places later, zeros coming in. -/
def later (n : ℕ) (p : ℕ → Fin 512 → ℝ) (t : ℕ) (i : Fin 512) : ℝ := if t < n then 0 else p (t - n) i

/-- The causal convolution over four tokens. -/
def conv (p : ℕ → Fin 512 → ℝ) (w : Fin 4 → Fin 512 → ℝ) (b : Fin 512 → ℝ) (t : ℕ) (i : Fin 512) : ℝ :=
  w 3 i * p t i + w 0 i * later 3 p t i + w 1 i * later 2 p t i + w 2 i * later 1 p t i + b i

/-- The gates' linear part. -/
def gateLin (x : ℕ → Fin 1024 → ℝ) (w : Fin 64 → Fin 1024 → ℝ) (b : Fin 64 → ℝ) (t : ℕ) (i : Fin 64) : ℝ :=
  (∑ j, x t j * w i j) + b i

/-- The output projection of the heads' rows, side by side. -/
def outProj (y : Fin 8 → ℕ → Fin 64 → ℝ) (w : Fin 1024 → Fin 512 → ℝ) (t : ℕ) (i : Fin 1024) : ℝ :=
  ∑ c : Fin 512, y ⟨c.val / 64, by omega⟩ t ⟨c.val % 64, by omega⟩ * w i c

end Cert.Proof
end
-- ==== Proof.Args.lean ====
module

public import proofs.«01_k».proof.Proof.Maths

@[expose] public section

noncomputable section

namespace Cert.Proof

/-- The programs' arguments as real numbers: the sequence, the projections, the convolutions' weights and biases, the
    gates' weights and biases (alpha, eta, theta, gamma, retrieval), the feature map's coefficients, the norm's weights. -/
structure Args where
  x : Fin 2 → ℕ → Fin 1024 → ℝ
  wq : Fin 512 → Fin 1024 → ℝ
  wk : Fin 512 → Fin 1024 → ℝ
  wv : Fin 512 → Fin 1024 → ℝ
  wo : Fin 1024 → Fin 512 → ℝ
  cq : Fin 512 → Fin 4 → ℝ
  bq : Fin 512 → ℝ
  ck : Fin 512 → Fin 4 → ℝ
  bk : Fin 512 → ℝ
  cv : Fin 512 → Fin 4 → ℝ
  bv : Fin 512 → ℝ
  aw : Fin 8 → Fin 1024 → ℝ
  ab : Fin 8 → ℝ
  ew : Fin 8 → Fin 1024 → ℝ
  eb : Fin 8 → ℝ
  tw : Fin 8 → Fin 1024 → ℝ
  tb : Fin 8 → ℝ
  gw : Fin 8 → Fin 1024 → ℝ
  gb : Fin 8 → ℝ
  pc : Fin 2 → ℝ
  ln : Fin 8 → Fin 64 → ℝ
  rw : Fin 8 → Fin 1024 → ℝ

/-- The weights of gate `g` of head `h`: alpha, eta, theta, gamma, retrieval, and zero beyond. -/
def Args.gateW (a : Args) (h : Fin 8) (g : ℕ) (j : Fin 1024) : ℝ :=
  if g < 1 then a.aw h j else if g < 2 then a.ew h j else if g < 3 then a.tw h j else if g < 4 then a.gw h j
    else if g < 5 then a.rw h j else 0

/-- The bias of gate `g` of head `h`: zero from the retrieval gate on. -/
def Args.gateB (a : Args) (h : Fin 8) (g : ℕ) : ℝ :=
  if g < 1 then a.ab h else if g < 2 then a.eb h else if g < 3 then a.tb h else if g < 4 then a.gb h else 0

/-- The gates' weights as one matrix of 64 rows. -/
def Args.gateM (a : Args) (i : Fin 64) (j : Fin 1024) : ℝ := a.gateW ⟨i.val / 8, by omega⟩ (i.val % 8) j

/-- The gates' biases as one row of 64. -/
def Args.gateV (a : Args) (i : Fin 64) : ℝ := a.gateB ⟨i.val / 8, by omega⟩ (i.val % 8)

/-- The convolutions' biases as one matrix of three rows. -/
def Args.bias3 (a : Args) (r : Fin 3) (i : Fin 512) : ℝ := if r.val < 1 then a.bq i else if r.val < 2 then a.bk i else a.bv i

/-- Column `64 h + d`. -/
def col (h : Fin 8) (d : Fin 64) : Fin 512 := ⟨h.val * 64 + d.val, by omega⟩

/-- The queries of one sequence: projected and convolved, feature `i`. -/
def Args.qf (a : Args) (b : Fin 2) (t : ℕ) (i : Fin 512) : ℝ := conv (proj (a.x b) a.wq) (fun j i => a.cq i j) a.bq t i
/-- The keys before their feature map. -/
def Args.cf (a : Args) (b : Fin 2) (t : ℕ) (i : Fin 512) : ℝ := conv (proj (a.x b) a.wk) (fun j i => a.ck i j) a.bk t i
/-- The values. -/
def Args.vf (a : Args) (b : Fin 2) (t : ℕ) (i : Fin 512) : ℝ := conv (proj (a.x b) a.wv) (fun j i => a.cv i j) a.bv t i
/-- The keys after the quadratic feature map. -/
def Args.kf (a : Args) (b : Fin 2) (t : ℕ) (i : Fin 512) : ℝ := a.pc 0 * a.cf b t i + a.pc 1 * (a.cf b t i * a.cf b t i)
/-- Gate `g` of head `h` before the sigmoid. -/
def Args.gf (a : Args) (b : Fin 2) (h : Fin 8) (t : ℕ) (g : Fin 8) : ℝ := gateLin (a.x b) a.gateM a.gateV t ⟨h.val * 8 + g.val, by omega⟩

/-- What the memory of one head gives at each token, normalised and gated. -/
def Args.head (a : Args) (b : Fin 2) (h : Fin 8) (t : ℕ) (d : Fin 64) : ℝ :=
  outY (a.ln h) (a.gf b h) (fun t d => a.kf b t (col h d)) (fun t d => a.vf b t (col h d)) (fun t d => a.qf b t (col h d)) t d

/-- The layer's output. -/
def Args.out (a : Args) (b : Fin 2) (t : ℕ) (i : Fin 1024) : ℝ := outProj (a.head b) a.wo t i

end Cert.Proof
end
-- ==== Proof.KHost.lean ====
module

public import proofs.«01_k».proof.Proof.Args
public import proofs.«01_k».proof.Proof.Gen.KernelIdeal.Frame
public import Idealize.ShloMosaic.Lib.Pipeline.ValueKit
public import Idealize.ShloMosaic.Lib.StableHlo.ReadAt

@[expose] public section

noncomputable section

namespace Cert.Proof

open Idealize.ShloMosaic Cert.KernelIdeal Cert.KernelIdeal.Gen
open Idealize.ShloMosaic.TcCoe
open scoped BigOperators

/-- The buffers hold the arguments `a`. -/
structure KHolds (V : Valuation τ sig (Elt Ideal)) (a : Args) : Prop where
  h0 : V (Proc.devRef .tc main_arg0) = T3 (φ := .f32) fun b (t : Fin 1024) i => a.x b t i
  h1 : V (Proc.devRef .tc main_arg1) = T2 (φ := .f32) a.wq
  h2 : V (Proc.devRef .tc main_arg2) = T2 (φ := .f32) a.wk
  h3 : V (Proc.devRef .tc main_arg3) = T2 (φ := .f32) a.wv
  h4 : V (Proc.devRef .tc main_arg4) = T2 (φ := .f32) a.wo
  h5 : V (Proc.devRef .tc main_arg5) = T3 (φ := .f32) fun i (_ : Fin 1) j => a.cq i j
  h6 : V (Proc.devRef .tc main_arg6) = T1 (φ := .f32) a.bq
  h7 : V (Proc.devRef .tc main_arg7) = T3 (φ := .f32) fun i (_ : Fin 1) j => a.ck i j
  h8 : V (Proc.devRef .tc main_arg8) = T1 (φ := .f32) a.bk
  h9 : V (Proc.devRef .tc main_arg9) = T3 (φ := .f32) fun i (_ : Fin 1) j => a.cv i j
  h10 : V (Proc.devRef .tc main_arg10) = T1 (φ := .f32) a.bv
  h11 : V (Proc.devRef .tc main_arg11) = T2 (φ := .f32) a.aw
  h12 : V (Proc.devRef .tc main_arg12) = T1 (φ := .f32) a.ab
  h13 : V (Proc.devRef .tc main_arg13) = T2 (φ := .f32) a.ew
  h14 : V (Proc.devRef .tc main_arg14) = T1 (φ := .f32) a.eb
  h15 : V (Proc.devRef .tc main_arg15) = T2 (φ := .f32) a.tw
  h16 : V (Proc.devRef .tc main_arg16) = T1 (φ := .f32) a.tb
  h17 : V (Proc.devRef .tc main_arg17) = T2 (φ := .f32) a.gw
  h18 : V (Proc.devRef .tc main_arg18) = T1 (φ := .f32) a.gb
  h19 : V (Proc.devRef .tc main_arg19) = T1 (φ := .f32) a.pc
  h20 : V (Proc.devRef .tc main_arg20) = T2 (φ := .f32) a.ln
  h21 : V (Proc.devRef .tc main_arg21) = T2 (φ := .f32) a.rw

variable {V : Valuation τ sig (Elt Ideal)} {a : Args}

theorem sub_lt_one (g n : ℕ) : (g - n < 1) = (g < n + 1) := propext (by omega)

/-- A convolution's weights as the first kernel receives them: tap by feature. -/
theorem host_v1 (h : KHolds V a) : StableHlo.after hostOps0 V (Proc.devRef .tc main_v1) = T2 (φ := .f32) fun (j : Fin 4) (i : Fin 512) => a.cq i j := by
  refine ext2 fun i j => ?_
  after_reads_at
  pointwise [h.h5, T3_ix, T2_ix]

theorem host_v3 (h : KHolds V a) : StableHlo.after hostOps0 V (Proc.devRef .tc main_v3) = T2 (φ := .f32) fun (j : Fin 4) (i : Fin 512) => a.ck i j := by
  refine ext2 fun i j => ?_
  after_reads_at
  pointwise [h.h7, T3_ix, T2_ix]

theorem host_v5 (h : KHolds V a) : StableHlo.after hostOps0 V (Proc.devRef .tc main_v5) = T2 (φ := .f32) fun (j : Fin 4) (i : Fin 512) => a.cv i j := by
  refine ext2 fun i j => ?_
  after_reads_at
  pointwise [h.h9, T3_ix, T2_ix]

/-- The three convolutions' biases. -/
theorem host_v9 (h : KHolds V a) : StableHlo.after hostOps0 V (Proc.devRef .tc main_v9) = T2 (φ := .f32) a.bias3 := by
  refine ext2 fun i j => ?_
  after_reads_at
  after_reads_at
  pointwise [h.h6, h.h8, h.h10, T1_ix, T2_ix]
  simp only [dite_eq_ite, Nat.sub_sub, Nat.reduceAdd, sub_lt_one, ite_self, zero_coe, ite_coe, Args.bias3]

/-- The gates' weights, the five gates of a head beside each other. -/
theorem host_v20 (h : KHolds V a) : StableHlo.after hostOps0 V (Proc.devRef .tc main_v20) = T2 (φ := .f32) a.gateM := by
  refine ext2 fun i j => ?_
  after_reads_at
  after_reads_at
  pointwise [h.h11, h.h13, h.h15, h.h17, h.h21, T1_ix, T2_ix]
  simp only [dite_eq_ite, Nat.sub_sub, Nat.reduceAdd, sub_lt_one, ite_self, zero_coe, ite_coe, Args.gateM, Args.gateW]
  split_ifs <;> rfl

/-- The gates' biases. -/
theorem host_v31 (h : KHolds V a) : StableHlo.after hostOps0 V (Proc.devRef .tc main_v31) = T2 (φ := .f32) fun (_ : Fin 1) => a.gateV := by
  refine ext2 fun i j => ?_
  after_reads_at
  after_reads_at
  pointwise [h.h12, h.h14, h.h16, h.h18, T1_ix, T2_ix]
  simp only [dite_eq_ite, Nat.sub_sub, Nat.reduceAdd, sub_lt_one, ite_self, zero_coe, ite_coe, Args.gateV, Args.gateB]
  split_ifs <;> rfl

/-- The feature map's two coefficients. -/
theorem host_v32 (h : KHolds V a) : StableHlo.after hostOps0 V (Proc.devRef .tc main_v32) = T2 (φ := .f32) fun (_ : Fin 1) => a.pc := by
  refine ext2 fun i j => ?_
  after_reads_at
  pointwise [h.h19, T1_ix, T2_ix]

/-- The first kernel's results cut into heads. -/
theorem host_v35 (f : Fin 2 → ℕ → Fin 512 → ℝ) (h : V (Proc.devRef .tc main_v33_0) = T3 (φ := .f32) fun b (t : Fin 1024) i => f b t i) :
    StableHlo.after hostOps1 V (Proc.devRef .tc main_v35) = T4 (φ := .f32) fun b h (t : Fin 1024) d => f b t (col h d) := by
  refine ext4 fun b g t d => ?_
  after_reads_at
  pointwise [h, T3_ix, T4_ix, col]

theorem host_v37 (f : Fin 2 → ℕ → Fin 512 → ℝ) (h : V (Proc.devRef .tc main_v33_1) = T3 (φ := .f32) fun b (t : Fin 1024) i => f b t i) :
    StableHlo.after hostOps1 V (Proc.devRef .tc main_v37) = T4 (φ := .f32) fun b h (t : Fin 1024) d => f b t (col h d) := by
  refine ext4 fun b g t d => ?_
  after_reads_at
  pointwise [h, T3_ix, T4_ix, col]

theorem host_v39 (f : Fin 2 → ℕ → Fin 512 → ℝ) (h : V (Proc.devRef .tc main_v33_2) = T3 (φ := .f32) fun b (t : Fin 1024) i => f b t i) :
    StableHlo.after hostOps1 V (Proc.devRef .tc main_v39) = T4 (φ := .f32) fun b h (t : Fin 1024) d => f b t (col h d) := by
  refine ext4 fun b g t d => ?_
  after_reads_at
  pointwise [h, T3_ix, T4_ix, col]

/-- The gates cut into heads. -/
theorem host_v41 (f : Fin 2 → ℕ → Fin 64 → ℝ) (h : V (Proc.devRef .tc main_v33_3) = T3 (φ := .f32) fun b (t : Fin 1024) i => f b t i) :
    StableHlo.after hostOps1 V (Proc.devRef .tc main_v41)
      = T4 (φ := .f32) fun b (h : Fin 8) (t : Fin 1024) (g : Fin 8) => f b t ⟨h.val * 8 + g.val, by omega⟩ := by
  refine ext4 fun b g t d => ?_
  after_reads_at
  pointwise [h, T3_ix, T4_ix]

/-- The norm's weights. -/
theorem host_v42 (f : Fin 8 → Fin 64 → ℝ) (h : V (Proc.devRef .tc main_arg20) = T2 (φ := .f32) f) :
    StableHlo.after hostOps1 V (Proc.devRef .tc main_v42) = T3 (φ := .f32) fun b (_ : Fin 1) d => f b d := by
  refine ext3 fun b g d => ?_
  after_reads_at
  pointwise [h, T3_ix, T2_ix]

end Cert.Proof
end
-- ==== Proof.Pre.lean ====
module

public import proofs.«01_k».proof.Proof.KHost
public import proofs.«01_k».proof.Defs
public import Idealize.ShloMosaic.Lib.ValueLayout

/-! The precondition: every argument entry is a real number, so the memory holds real arguments. -/

@[expose] public section

noncomputable section

namespace Cert.Proof

open Idealize.ShloMosaic
open scoped BigOperators

/-- The precondition's function is well formed. -/
theorem pre_facts : Cert.Pre_all_finite.Facts := by
  constructor <;> decide

/-- A number of absolute value below the largest is real. -/
theorem real_of_olt (x : EReal) (h : max x (-x) < Ideal.ofBits FTy.f32 0x7F800000#32) : x = ((x.toReal : ℝ) : EReal) := by
  have ht : max x (-x) < ⊤ := lt_of_lt_of_le h le_top
  refine (EReal.coe_toReal ?_ ?_).symm
  · rintro rfl; simp at ht
  · rintro rfl; simp at ht

/-- An array the precondition's test passes everywhere has real entries. -/
theorem mask_real {s : Shape} (hb : Cert.Pre_all_finite.S_.BroadcastsInDim s ![]) (x : FVec Ideal s .f32)
    (h : cmpf .olt (Host.absf x) (broadcastInDim s ![] hb (constant (F := Ideal) Cert.Pre_all_finite.S_ .f32 0x7F800000#32))
      = fun _ => 1#1) (i : s.Idx) : x i = (((x i : EReal).toReal : ℝ) : EReal) := by
  have h' := congrFun h i
  refine real_of_olt (x i) ?_
  by_contra hc
  change BitVec.ofBool (decide (max (x i) (-(x i)) < Ideal.ofBits FTy.f32 0x7F800000#32)) = 1#1 at h'
  rw [decide_eq_false hc] at h'
  exact absurd h' (by decide)

/-- A conjunction of masks that holds everywhere. -/
theorem and_split {s : Shape} (u v : IVec s 1) (h : andi u v = fun _ => 1#1) : u = (fun _ => 1#1) ∧ v = fun _ => 1#1 := by
  have key : ∀ p q : BitVec 1, p &&& q = 1#1 → p = 1#1 ∧ q = 1#1 := by decide
  exact ⟨funext fun i => (key _ _ (congrFun h i)).1, funext fun i => (key _ _ (congrFun h i)).2⟩

/-- A mask of 512 entries spread along an array's first axis. -/
theorem rows512 (v : IVec ⟨1, ![512]⟩ 1) (hb : (⟨1, ![512]⟩ : Shape).BroadcastsInDim ⟨2, ![512, 1024]⟩ ![0])
    (h : broadcastInDim ⟨2, ![512, 1024]⟩ ![0] hb v = fun _ => 1#1) : v = fun _ => 1#1 := by
  refine funext fun i => ?_
  obtain ⟨k, rfl⟩ : ∃ k : Fin 512, i = ix1 k := ⟨i 0, eq_ix1 i⟩
  have e := congrFun h (ix2 k 0)
  pointwise at e
  exact e

/-- A mask of 8 entries spread along an array's first axis. -/
theorem rows8 (v : IVec ⟨1, ![8]⟩ 1) (hb : (⟨1, ![8]⟩ : Shape).BroadcastsInDim ⟨2, ![8, 1024]⟩ ![0])
    (h : broadcastInDim ⟨2, ![8, 1024]⟩ ![0] hb v = fun _ => 1#1) : v = fun _ => 1#1 := by
  refine funext fun i => ?_
  obtain ⟨k, rfl⟩ : ∃ k : Fin 8, i = ix1 k := ⟨i 0, eq_ix1 i⟩
  have e := congrFun h (ix2 k 0)
  pointwise at e
  exact e

/-- A mask of 2 entries spread along an array's first axis. -/
theorem slabs2 (v : IVec ⟨1, ![2]⟩ 1) (hb : (⟨1, ![2]⟩ : Shape).BroadcastsInDim ⟨3, ![2, 1024, 1024]⟩ ![0])
    (h : broadcastInDim ⟨3, ![2, 1024, 1024]⟩ ![0] hb v = fun _ => 1#1) : v = fun _ => 1#1 := by
  refine funext fun i => ?_
  obtain ⟨k, rfl⟩ : ∃ k : Fin 2, i = ix1 k := ⟨i 0, eq_ix1 i⟩
  have e := congrFun h (ix3 k 0 0)
  pointwise at e
  exact e

/-- A matrix whose transpose has real entries has real entries. -/
theorem real_transpose {n p : ℕ} (x : FVec Ideal ⟨2, ![n, p]⟩ .f32) (ht : (⟨2, ![n, p]⟩ : Shape).Transposes [1, 0] ⟨2, ![p, n]⟩)
    (h : ∀ i, transpose ⟨2, ![p, n]⟩ [1, 0] x ht i = (((transpose ⟨2, ![p, n]⟩ [1, 0] x ht i : EReal).toReal : ℝ) : EReal)) (i) :
    x i = (((x i : EReal).toReal : ℝ) : EReal) := by
  obtain ⟨a, b, rfl⟩ : ∃ (a : Fin n) (b : Fin p), i = ix2 a b := ⟨i 0, i 1, eq_ix2 i⟩
  have e := h (ix2 b a)
  exact (ValueIdx.transpose_ix2_apply x ht b a).symm.trans (e.trans (congrArg (fun z : EReal => ((z.toReal : ℝ) : EReal)) (ValueIdx.transpose_ix2_apply x ht b a)))

/-- A vector of real entries is the array of its real parts. -/
theorem real1 {n : ℕ} (x : FVec Ideal ⟨1, ![n]⟩ .f32) (h : ∀ i, x i = (((x i : EReal).toReal : ℝ) : EReal)) :
    x = T1 (φ := .f32) fun i => EReal.toReal (x (ix1 i)) := ext1 fun _ => by
    rw [T1_ix]
    exact h _
/-- A matrix of real entries is the array of its real parts. -/
theorem real2 {n p : ℕ} (x : FVec Ideal ⟨2, ![n, p]⟩ .f32) (h : ∀ i, x i = (((x i : EReal).toReal : ℝ) : EReal)) :
    x = T2 (φ := .f32) fun i j => EReal.toReal (x (ix2 i j)) := ext2 fun _ _ => by
    rw [T2_ix]
    exact h _
/-- A three-dimensional array of real entries is the array of its real parts. -/
theorem real3 {n p q : ℕ} (x : FVec Ideal ⟨3, ![n, p, q]⟩ .f32) (h : ∀ i, x i = (((x i : EReal).toReal : ℝ) : EReal)) :
    x = T3 (φ := .f32) fun i j k => EReal.toReal (x (ix3 i j k)) := ext3 fun _ _ _ => by
    rw [T3_ix]
    exact h _

section
open Cert.KernelIdeal Cert.KernelIdeal.Gen
open Idealize.ShloMosaic.TcCoe

variable (m : (ℓ : Loc nD τ sig) → Buf (Elt Ideal) ℓ) (c : Dev nD)

/-- The real arguments a memory holds. -/
def argsOf : Args where
  x b t i := if h : t < 1024 then EReal.toReal ((m ((c.tc : Thread nD τ).loc main_arg0) : FVec Ideal ⟨3, ![2, 1024, 1024]⟩ .f32) (ix3 b ⟨t, h⟩ i)) else 0
  wq i j := EReal.toReal ((m ((c.tc : Thread nD τ).loc main_arg1) : FVec Ideal ⟨2, ![512, 1024]⟩ .f32) (ix2 i j))
  wk i j := EReal.toReal ((m ((c.tc : Thread nD τ).loc main_arg2) : FVec Ideal ⟨2, ![512, 1024]⟩ .f32) (ix2 i j))
  wv i j := EReal.toReal ((m ((c.tc : Thread nD τ).loc main_arg3) : FVec Ideal ⟨2, ![512, 1024]⟩ .f32) (ix2 i j))
  wo i j := EReal.toReal ((m ((c.tc : Thread nD τ).loc main_arg4) : FVec Ideal ⟨2, ![1024, 512]⟩ .f32) (ix2 i j))
  cq i j := EReal.toReal ((m ((c.tc : Thread nD τ).loc main_arg5) : FVec Ideal ⟨3, ![512, 1, 4]⟩ .f32) (ix3 i 0 j))
  bq i := EReal.toReal ((m ((c.tc : Thread nD τ).loc main_arg6) : FVec Ideal ⟨1, ![512]⟩ .f32) (ix1 i))
  ck i j := EReal.toReal ((m ((c.tc : Thread nD τ).loc main_arg7) : FVec Ideal ⟨3, ![512, 1, 4]⟩ .f32) (ix3 i 0 j))
  bk i := EReal.toReal ((m ((c.tc : Thread nD τ).loc main_arg8) : FVec Ideal ⟨1, ![512]⟩ .f32) (ix1 i))
  cv i j := EReal.toReal ((m ((c.tc : Thread nD τ).loc main_arg9) : FVec Ideal ⟨3, ![512, 1, 4]⟩ .f32) (ix3 i 0 j))
  bv i := EReal.toReal ((m ((c.tc : Thread nD τ).loc main_arg10) : FVec Ideal ⟨1, ![512]⟩ .f32) (ix1 i))
  aw i j := EReal.toReal ((m ((c.tc : Thread nD τ).loc main_arg11) : FVec Ideal ⟨2, ![8, 1024]⟩ .f32) (ix2 i j))
  ab i := EReal.toReal ((m ((c.tc : Thread nD τ).loc main_arg12) : FVec Ideal ⟨1, ![8]⟩ .f32) (ix1 i))
  ew i j := EReal.toReal ((m ((c.tc : Thread nD τ).loc main_arg13) : FVec Ideal ⟨2, ![8, 1024]⟩ .f32) (ix2 i j))
  eb i := EReal.toReal ((m ((c.tc : Thread nD τ).loc main_arg14) : FVec Ideal ⟨1, ![8]⟩ .f32) (ix1 i))
  tw i j := EReal.toReal ((m ((c.tc : Thread nD τ).loc main_arg15) : FVec Ideal ⟨2, ![8, 1024]⟩ .f32) (ix2 i j))
  tb i := EReal.toReal ((m ((c.tc : Thread nD τ).loc main_arg16) : FVec Ideal ⟨1, ![8]⟩ .f32) (ix1 i))
  gw i j := EReal.toReal ((m ((c.tc : Thread nD τ).loc main_arg17) : FVec Ideal ⟨2, ![8, 1024]⟩ .f32) (ix2 i j))
  gb i := EReal.toReal ((m ((c.tc : Thread nD τ).loc main_arg18) : FVec Ideal ⟨1, ![8]⟩ .f32) (ix1 i))
  pc i := EReal.toReal ((m ((c.tc : Thread nD τ).loc main_arg19) : FVec Ideal ⟨1, ![2]⟩ .f32) (ix1 i))
  ln i j := EReal.toReal ((m ((c.tc : Thread nD τ).loc main_arg20) : FVec Ideal ⟨2, ![8, 64]⟩ .f32) (ix2 i j))
  rw i j := EReal.toReal ((m ((c.tc : Thread nD τ).loc main_arg21) : FVec Ideal ⟨2, ![8, 1024]⟩ .f32) (ix2 i j))

/-- The precondition: where it holds, the memory's arguments are `argsOf`. -/
theorem holds_of_pre [Cert.Pre_all_finite.Facts] (ρ : Dev nD → PrngReg) (P : Cert.Pre_KernelIdeal_all_finite m) :
    KHolds (W0 m ρ c) (argsOf m c) := by
  obtain ⟨q0, q1, q2, q3, q4⟩ := P c
  obtain ⟨p0, p19⟩ := and_split _ _ q0
  obtain ⟨q1, p10⟩ := and_split _ _ q1
  obtain ⟨q1, p8⟩ := and_split _ _ q1
  obtain ⟨q1, p6⟩ := and_split _ _ q1
  obtain ⟨q1, p4⟩ := and_split _ _ q1
  obtain ⟨q1, p3⟩ := and_split _ _ q1
  obtain ⟨p1, p2⟩ := and_split _ _ q1
  obtain ⟨q2, p9⟩ := and_split _ _ q2
  obtain ⟨p5, p7⟩ := and_split _ _ q2
  obtain ⟨q3, p18⟩ := and_split _ _ q3
  obtain ⟨q3, p16⟩ := and_split _ _ q3
  obtain ⟨q3, p14⟩ := and_split _ _ q3
  obtain ⟨q3, p12⟩ := and_split _ _ q3
  obtain ⟨q3, p21⟩ := and_split _ _ q3
  obtain ⟨q3, p17⟩ := and_split _ _ q3
  obtain ⟨q3, p15⟩ := and_split _ _ q3
  obtain ⟨p11, p13⟩ := and_split _ _ q3
  clear P q0 q1 q2 q3
  constructor
  · refine (real3 (n := 2) (p := 1024) (q := 1024) _ (mask_real _ _ p0)).trans ?_
    refine ext3 fun b t i => ?_
    rw [T3_ix, T3_ix]
    simp only [argsOf, t.isLt, dite_true]
  · exact real2 _ (mask_real _ _ p1)
  · exact real2 _ (mask_real _ _ p2)
  · exact real2 _ (mask_real _ _ p3)
  · exact real2 _ (real_transpose _ _ (mask_real _ _ p4))
  · refine (real3 (n := 512) (p := 1) (q := 4) _ (mask_real _ _ p5)).trans ?_
    refine ext3 fun b t i => ?_
    rw [T3_ix, T3_ix, Fin.eq_zero t]
    rfl
  · exact real1 _ (mask_real _ _ (rows512 _ _ p6))
  · refine (real3 (n := 512) (p := 1) (q := 4) _ (mask_real _ _ p7)).trans ?_
    refine ext3 fun b t i => ?_
    rw [T3_ix, T3_ix, Fin.eq_zero t]
    rfl
  · exact real1 _ (mask_real _ _ (rows512 _ _ p8))
  · refine (real3 (n := 512) (p := 1) (q := 4) _ (mask_real _ _ p9)).trans ?_
    refine ext3 fun b t i => ?_
    rw [T3_ix, T3_ix, Fin.eq_zero t]
    rfl
  · exact real1 _ (mask_real _ _ (rows512 _ _ p10))
  · exact real2 _ (mask_real _ _ p11)
  · exact real1 _ (mask_real _ _ (rows8 _ _ p12))
  · exact real2 _ (mask_real _ _ p13)
  · exact real1 _ (mask_real _ _ (rows8 _ _ p14))
  · exact real2 _ (mask_real _ _ p15)
  · exact real1 _ (mask_real _ _ (rows8 _ _ p16))
  · exact real2 _ (mask_real _ _ p17)
  · exact real1 _ (mask_real _ _ (rows8 _ _ p18))
  · exact real1 _ (mask_real _ _ (slabs2 _ _ p19))
  · exact real2 _ (mask_real _ _ q4)
  · exact real2 _ (mask_real _ _ p21)

end

end Cert.Proof
end
-- ==== Proof.K0.lean ====
module

public import proofs.«01_k».proof.Proof.Maths
public import proofs.«01_k».proof.Proof.Gen.KernelIdeal.Frame
public import Idealize.ShloMosaic.Lib.Pipeline.ValueKit

@[expose] public section

noncomputable section

namespace Cert.Proof

open Idealize.ShloMosaic Cert.KernelIdeal Cert.KernelIdeal.Gen
open Idealize.ShloMosaic.TcCoe
open scoped BigOperators

theorem k0pay2_T (x : ℕ → Fin 1024 → ℝ) :
    k0_pay2 (F := Ideal) (T3 (φ := .f32) fun (_ : Fin 1) (t : Fin 1024) i => x t i) = T2 fun t i => x t i := by
  refine ext2 fun t i => ?_
  pointwise [k0_pay2, T2_ix, T3_ix]

theorem k0pay3_T (x : ℕ → Fin 1024 → ℝ) (w : Fin 512 → Fin 1024 → ℝ) :
    k0_pay3 (F := Ideal) (T3 (φ := .f32) fun (_ : Fin 1) (t : Fin 1024) i => x t i) (T2 (φ := .f32) w) = T2 fun t i => proj x w t i := by
  refine ext2 fun t i => ?_
  pointwise [k0_pay3, k0pay2_T, T2_ix, T3_ix]
  simp only [sub_coe, sub_self, zero_mul, mul_zero, mul_coe, coe_sum, add_coe, Finset.sum_const_zero, zero_add, proj]

theorem k0pay9_T (x : ℕ → Fin 1024 → ℝ) (w : Fin 512 → Fin 1024 → ℝ) :
    k0_pay9 (F := Ideal) (T2 fun t i => x t i) (T2 (φ := .f32) w) = T2 fun t i => proj x w t i := by
  refine ext2 fun t i => ?_
  pointwise [k0_pay9, T2_ix, T3_ix]
  simp only [sub_coe, sub_self, zero_mul, mul_zero, mul_coe, coe_sum, add_coe, Finset.sum_const_zero, zero_add, proj]

theorem k0pay15_T (x : ℕ → Fin 1024 → ℝ) (w : Fin 512 → Fin 1024 → ℝ) :
    k0_pay15 (F := Ideal) (T2 fun t i => x t i) (T2 (φ := .f32) w) = T2 fun t i => proj x w t i := by
  refine ext2 fun t i => ?_
  pointwise [k0_pay15, T2_ix, T3_ix]
  simp only [sub_coe, sub_self, zero_mul, mul_zero, mul_coe, coe_sum, add_coe, Finset.sum_const_zero, zero_add, proj]

variable (x : ℕ → Fin 1024 → ℝ) (w1 w2 w3 : Fin 512 → Fin 1024 → ℝ) (w4 w5 w6 : Fin 4 → Fin 512 → ℝ)
  (w7 : Fin 3 → Fin 512 → ℝ) (w8 : Fin 64 → Fin 1024 → ℝ) (w9 : Fin 64 → ℝ) (w10 : Fin 2 → ℝ)

/-- The query block. -/
theorem out0_11_T :
    out0_11 (F := Ideal) (T3 (φ := .f32) fun (_ : Fin 1) (t : Fin 1024) i => x t i) (T2 (φ := .f32) w1) (T2 (φ := .f32) w2) (T2 (φ := .f32) w3) (T2 (φ := .f32) w4)
      (T2 (φ := .f32) w5) (T2 (φ := .f32) w6) (T2 (φ := .f32) w7) (T2 (φ := .f32) w8) (T2 (φ := .f32) fun (_ : Fin 1) => w9) (T2 (φ := .f32) fun (_ : Fin 1) => w10)
      = T3 (φ := .f32) fun (_ : Fin 1) (t : Fin 1024) i => conv (proj x w1) w4 (w7 0) t i := by
  unfold out0_11
  rw [View.canon_cons_unit_lit _ _ _ (by decide), View.ld_unit_lit _ _ (by decide), View.ld_unit_lit _ _ (by decide)]
  refine ext3 fun a t i => ?_
  pointwise [k0_pay8, k0_pay4, k0_pay5, k0_pay6, k0_pay7, k0pay3_T, T2_ix, T3_ix]
  simp only [dite_eq_ite, zero_coe, ite_coe, mul_coe, add_coe, conv, later]

/-- The value block. -/
theorem out0_13_T :
    out0_13 (F := Ideal) (T3 (φ := .f32) fun (_ : Fin 1) (t : Fin 1024) i => x t i) (T2 (φ := .f32) w1) (T2 (φ := .f32) w2) (T2 (φ := .f32) w3) (T2 (φ := .f32) w4)
      (T2 (φ := .f32) w5) (T2 (φ := .f32) w6) (T2 (φ := .f32) w7) (T2 (φ := .f32) w8) (T2 (φ := .f32) fun (_ : Fin 1) => w9) (T2 (φ := .f32) fun (_ : Fin 1) => w10)
      = T3 (φ := .f32) fun (_ : Fin 1) (t : Fin 1024) i => conv (proj x w3) w6 (w7 2) t i := by
  unfold out0_13 k0_pay24
  rw [View.canon_cons_unit_lit _ _ _ (by decide), View.ld_unit_lit _ _ (by decide), View.ld_unit_lit _ _ (by decide)]
  refine ext3 fun a t i => ?_
  pointwise [k0_pay14, k0_pay10, k0_pay11, k0_pay12, k0_pay13, k0pay2_T, k0pay9_T, T2_ix, T3_ix]
  simp only [dite_eq_ite, zero_coe, ite_coe, mul_coe, add_coe, conv, later]

/-- The key block, after its quadratic feature map. -/
theorem out0_12_T :
    out0_12 (F := Ideal) (T3 (φ := .f32) fun (_ : Fin 1) (t : Fin 1024) i => x t i) (T2 (φ := .f32) w1) (T2 (φ := .f32) w2) (T2 (φ := .f32) w3) (T2 (φ := .f32) w4)
      (T2 (φ := .f32) w5) (T2 (φ := .f32) w6) (T2 (φ := .f32) w7) (T2 (φ := .f32) w8) (T2 (φ := .f32) fun (_ : Fin 1) => w9) (T2 (φ := .f32) fun (_ : Fin 1) => w10)
      = T3 (φ := .f32) fun (_ : Fin 1) (t : Fin 1024) i => w10 0 * conv (proj x w2) w5 (w7 1) t i
          + w10 1 * (conv (proj x w2) w5 (w7 1) t i * conv (proj x w2) w5 (w7 1) t i) := by
  unfold out0_12 k0_pay24
  rw [View.canon_cons_unit_lit _ _ _ (by decide), View.ld_unit_lit _ _ (by decide), View.ld_unit_lit _ _ (by decide)]
  refine ext3 fun a t i => ?_
  pointwise [k0_pay20, k0_pay16, k0_pay17, k0_pay18, k0_pay19, k0pay2_T, k0pay15_T, T2_ix, T3_ix]
  simp only [dite_eq_ite, zero_coe, ite_coe, mul_coe, add_coe, conv, later]

/-- The gates block. -/
theorem out0_14_T :
    out0_14 (F := Ideal) (T3 (φ := .f32) fun (_ : Fin 1) (t : Fin 1024) i => x t i) (T2 (φ := .f32) w1) (T2 (φ := .f32) w2) (T2 (φ := .f32) w3) (T2 (φ := .f32) w4)
      (T2 (φ := .f32) w5) (T2 (φ := .f32) w6) (T2 (φ := .f32) w7) (T2 (φ := .f32) w8) (T2 (φ := .f32) fun (_ : Fin 1) => w9) (T2 (φ := .f32) fun (_ : Fin 1) => w10)
      = T3 (φ := .f32) fun (_ : Fin 1) (t : Fin 1024) i => gateLin x w8 w9 t i := by
  unfold out0_14 k0_pay24
  rw [View.canon_cons_unit_lit _ _ _ (by decide), View.ld_unit_lit _ _ (by decide), View.ld_unit_lit _ _ (by decide), View.ld_unit_lit _ _ (by decide)]
  refine ext3 fun a t i => ?_
  pointwise [k0_pay1, k0_pay21, k0_pay22, k0_pay23, k0pay2_T, T2_ix, T3_ix]
  simp only [sub_coe, sub_self, zero_mul, mul_zero, mul_coe, coe_sum, add_coe, Finset.sum_const_zero, zero_add, gateLin]

end Cert.Proof
end
-- ==== Proof.KArr0.lean ====
module

public import proofs.«01_k».proof.Proof.Args
public import proofs.«01_k».proof.Proof.K0

@[expose] public section

set_option maxRecDepth 16384

noncomputable section

namespace Cert.Proof

open Idealize.ShloMosaic Cert.KernelIdeal Cert.KernelIdeal.Gen
open Idealize.ShloMosaic.TcCoe
open scoped BigOperators

variable {V : (c : Dev nD) → (b : Ref sig .tc) → Buf (Elt Ideal) ((c : Thread nD τ).loc b)} {a : Args} (c : Dev nD)

/-- What the first kernel finds in its operands. -/
structure In0 (V : (c : Dev nD) → (b : Ref sig .tc) → Buf (Elt Ideal) ((c : Thread nD τ).loc b)) (a : Args) (c : Dev nD) : Prop where
  h0 : V c main_arg0 = T3 (φ := .f32) fun b (t : Fin 1024) i => a.x b t i
  h1 : V c main_arg1 = T2 (φ := .f32) a.wq
  h2 : V c main_arg2 = T2 (φ := .f32) a.wk
  h3 : V c main_arg3 = T2 (φ := .f32) a.wv
  h4 : V c main_v1 = T2 (φ := .f32) fun (j : Fin 4) (i : Fin 512) => a.cq i j
  h5 : V c main_v3 = T2 (φ := .f32) fun (j : Fin 4) (i : Fin 512) => a.ck i j
  h6 : V c main_v5 = T2 (φ := .f32) fun (j : Fin 4) (i : Fin 512) => a.cv i j
  h7 : V c main_v9 = T2 (φ := .f32) a.bias3
  h8 : V c main_v20 = T2 (φ := .f32) a.gateM
  h9 : V c main_v31 = T2 (φ := .f32) fun (_ : Fin 1) => a.gateV
  h10 : V c main_v32 = T2 (φ := .f32) fun (_ : Fin 1) => a.pc

/-- The sequence of a grid point of the first kernel. -/
def bOf0 (t : Fin cfg0.N) : Fin 2 := ⟨(grid0.coords t 0).val, (by decide +kernel : ∀ t : Fin cfg0.N, (grid0.coords t 0).val < 2) t⟩

theorem idx0_0 : ∀ t : Fin cfg0.N, (cfg0.win 0).index t = ![(grid0.coords t 0).val, 0, 0] := by decide +kernel
theorem idx0_11 : ∀ t : Fin cfg0.N, (cfg0.win 11).index t = ![(grid0.coords t 0).val, 0, 0] := by decide +kernel
theorem idx0_12 : ∀ t : Fin cfg0.N, (cfg0.win 12).index t = ![(grid0.coords t 0).val, 0, 0] := by decide +kernel
theorem idx0_13 : ∀ t : Fin cfg0.N, (cfg0.win 13).index t = ![(grid0.coords t 0).val, 0, 0] := by decide +kernel
theorem idx0_14 : ∀ t : Fin cfg0.N, (cfg0.win 14).index t = ![(grid0.coords t 0).val, 0, 0] := by decide +kernel
theorem idx0_1 : ∀ t : Fin cfg0.N, (cfg0.win 1).index t = ![0, 0] := by decide +kernel
theorem idx0_2 : ∀ t : Fin cfg0.N, (cfg0.win 2).index t = ![0, 0] := by decide +kernel
theorem idx0_3 : ∀ t : Fin cfg0.N, (cfg0.win 3).index t = ![0, 0] := by decide +kernel
theorem idx0_4 : ∀ t : Fin cfg0.N, (cfg0.win 4).index t = ![0, 0] := by decide +kernel
theorem idx0_5 : ∀ t : Fin cfg0.N, (cfg0.win 5).index t = ![0, 0] := by decide +kernel
theorem idx0_6 : ∀ t : Fin cfg0.N, (cfg0.win 6).index t = ![0, 0] := by decide +kernel
theorem idx0_7 : ∀ t : Fin cfg0.N, (cfg0.win 7).index t = ![0, 0] := by decide +kernel
theorem idx0_8 : ∀ t : Fin cfg0.N, (cfg0.win 8).index t = ![0, 0] := by decide +kernel
theorem idx0_9 : ∀ t : Fin cfg0.N, (cfg0.win 9).index t = ![0, 0] := by decide +kernel
theorem idx0_10 : ∀ t : Fin cfg0.N, (cfg0.win 10).index t = ![0, 0] := by decide +kernel

theorem iblk0_0 (t : Fin cfg0.N) (h : In0 V a c) :
    iblk0 V c 0 t = T3 (φ := .f32) fun (_ : Fin 1) (s : Fin 1024) i => a.x (bOf0 t) s i := by
  refine ext3 fun u s i => ?_
  have e : iblk0 V c 0 t (ix3 u s i) = V c main_arg0 (ix3 (bOf0 t) s i) := by
    blk_ext [iblk0, idx0_0 t, bOf0]
  rw [e, h.h0]; rfl

theorem iblk0_1 (t : Fin cfg0.N) (h : In0 V a c) : iblk0 V c 1 t = T2 (φ := .f32) (a.wq) := by
  refine ext2 fun u s => ?_
  have e : iblk0 V c 1 t (ix2 u s) = V c main_arg1 (ix2 u s) := by
    blk_ext [iblk0, idx0_1 t]
  rw [e, h.h1]

theorem iblk0_2 (t : Fin cfg0.N) (h : In0 V a c) : iblk0 V c 2 t = T2 (φ := .f32) (a.wk) := by
  refine ext2 fun u s => ?_
  have e : iblk0 V c 2 t (ix2 u s) = V c main_arg2 (ix2 u s) := by
    blk_ext [iblk0, idx0_2 t]
  rw [e, h.h2]

theorem iblk0_3 (t : Fin cfg0.N) (h : In0 V a c) : iblk0 V c 3 t = T2 (φ := .f32) (a.wv) := by
  refine ext2 fun u s => ?_
  have e : iblk0 V c 3 t (ix2 u s) = V c main_arg3 (ix2 u s) := by
    blk_ext [iblk0, idx0_3 t]
  rw [e, h.h3]

theorem iblk0_4 (t : Fin cfg0.N) (h : In0 V a c) : iblk0 V c 4 t = T2 (φ := .f32) (fun (j : Fin 4) (i : Fin 512) => a.cq i j) := by
  refine ext2 fun u s => ?_
  have e : iblk0 V c 4 t (ix2 u s) = V c main_v1 (ix2 u s) := by
    blk_ext [iblk0, idx0_4 t]
  rw [e, h.h4]

theorem iblk0_5 (t : Fin cfg0.N) (h : In0 V a c) : iblk0 V c 5 t = T2 (φ := .f32) (fun (j : Fin 4) (i : Fin 512) => a.ck i j) := by
  refine ext2 fun u s => ?_
  have e : iblk0 V c 5 t (ix2 u s) = V c main_v3 (ix2 u s) := by
    blk_ext [iblk0, idx0_5 t]
  rw [e, h.h5]

theorem iblk0_6 (t : Fin cfg0.N) (h : In0 V a c) : iblk0 V c 6 t = T2 (φ := .f32) (fun (j : Fin 4) (i : Fin 512) => a.cv i j) := by
  refine ext2 fun u s => ?_
  have e : iblk0 V c 6 t (ix2 u s) = V c main_v5 (ix2 u s) := by
    blk_ext [iblk0, idx0_6 t]
  rw [e, h.h6]

theorem iblk0_7 (t : Fin cfg0.N) (h : In0 V a c) : iblk0 V c 7 t = T2 (φ := .f32) (a.bias3) := by
  refine ext2 fun u s => ?_
  have e : iblk0 V c 7 t (ix2 u s) = V c main_v9 (ix2 u s) := by
    blk_ext [iblk0, idx0_7 t]
  rw [e, h.h7]

theorem iblk0_8 (t : Fin cfg0.N) (h : In0 V a c) : iblk0 V c 8 t = T2 (φ := .f32) (a.gateM) := by
  refine ext2 fun u s => ?_
  have e : iblk0 V c 8 t (ix2 u s) = V c main_v20 (ix2 u s) := by
    blk_ext [iblk0, idx0_8 t]
  rw [e, h.h8]

theorem iblk0_9 (t : Fin cfg0.N) (h : In0 V a c) : iblk0 V c 9 t = T2 (φ := .f32) (fun (_ : Fin 1) => a.gateV) := by
  refine ext2 fun u s => ?_
  have e : iblk0 V c 9 t (ix2 u s) = V c main_v31 (ix2 u s) := by
    blk_ext [iblk0, idx0_9 t]
  rw [e, h.h9]

theorem iblk0_10 (t : Fin cfg0.N) (h : In0 V a c) : iblk0 V c 10 t = T2 (φ := .f32) (fun (_ : Fin 1) => a.pc) := by
  refine ext2 fun u s => ?_
  have e : iblk0 V c 10 t (ix2 u s) = V c main_v32 (ix2 u s) := by
    blk_ext [iblk0, idx0_10 t]
  rw [e, h.h10]

/-- The queries that the first kernel leaves. -/
theorem arr0_11 (h : In0 V a c) : (dat0 V c).arrAt 11 cfg0.N = T3 (φ := .f32) fun b (t : Fin 1024) i => a.qf b t i := by
  refine (dat0 V c).arrAt_eq_of_covers 11 _ (by decide +kernel) fun t hf y => ?_
  blk_simp
  rw [after0_11, iblk0_0 c t h, iblk0_1 c t h, iblk0_2 c t h, iblk0_3 c t h, iblk0_4 c t h, iblk0_5 c t h, iblk0_6 c t h, iblk0_7 c t h, iblk0_8 c t h, iblk0_9 c t h, iblk0_10 c t h, out0_11_T]
  have e : (win0_11.blk t).view.emb y = ix3 (bOf0 t) (y 1) (y 2) := by
    blk_ext [idx0_11 t, bOf0]
  rw [e]
  rfl

/-- The keys that the first kernel leaves. -/
theorem arr0_12 (h : In0 V a c) : (dat0 V c).arrAt 12 cfg0.N = T3 (φ := .f32) fun b (t : Fin 1024) i => a.kf b t i := by
  refine (dat0 V c).arrAt_eq_of_covers 12 _ (by decide +kernel) fun t hf y => ?_
  blk_simp
  rw [after0_12, iblk0_0 c t h, iblk0_1 c t h, iblk0_2 c t h, iblk0_3 c t h, iblk0_4 c t h, iblk0_5 c t h, iblk0_6 c t h, iblk0_7 c t h, iblk0_8 c t h, iblk0_9 c t h, iblk0_10 c t h, out0_12_T]
  have e : (win0_12.blk t).view.emb y = ix3 (bOf0 t) (y 1) (y 2) := by
    blk_ext [idx0_12 t, bOf0]
  rw [e]
  rfl

/-- The values that the first kernel leaves. -/
theorem arr0_13 (h : In0 V a c) : (dat0 V c).arrAt 13 cfg0.N = T3 (φ := .f32) fun b (t : Fin 1024) i => a.vf b t i := by
  refine (dat0 V c).arrAt_eq_of_covers 13 _ (by decide +kernel) fun t hf y => ?_
  blk_simp
  rw [after0_13, iblk0_0 c t h, iblk0_1 c t h, iblk0_2 c t h, iblk0_3 c t h, iblk0_4 c t h, iblk0_5 c t h, iblk0_6 c t h, iblk0_7 c t h, iblk0_8 c t h, iblk0_9 c t h, iblk0_10 c t h, out0_13_T]
  have e : (win0_13.blk t).view.emb y = ix3 (bOf0 t) (y 1) (y 2) := by
    blk_ext [idx0_13 t, bOf0]
  rw [e]
  rfl

/-- The gates, before their sigmoids, that the first kernel leaves. -/
theorem arr0_14 (h : In0 V a c) : (dat0 V c).arrAt 14 cfg0.N = T3 (φ := .f32) fun b (t : Fin 1024) i => gateLin (a.x b) a.gateM a.gateV t i := by
  refine (dat0 V c).arrAt_eq_of_covers 14 _ (by decide +kernel) fun t hf y => ?_
  blk_simp
  rw [after0_14, iblk0_0 c t h, iblk0_1 c t h, iblk0_2 c t h, iblk0_3 c t h, iblk0_4 c t h, iblk0_5 c t h, iblk0_6 c t h, iblk0_7 c t h, iblk0_8 c t h, iblk0_9 c t h, iblk0_10 c t h, out0_14_T]
  have e : (win0_14.blk t).view.emb y = ix3 (bOf0 t) (y 1) (y 2) := by
    blk_ext [idx0_14 t, bOf0]
  rw [e]
  rfl

end Cert.Proof
end
-- ==== Proof.K1.lean ====
module

public import proofs.«01_k».proof.Proof.Maths
public import proofs.«01_k».proof.Proof.Gen.KernelIdeal.Skeleton

@[expose] public section

noncomputable section

namespace Cert.Proof

open Idealize.ShloMosaic Cert.KernelIdeal Cert.KernelIdeal.Gen
open scoped BigOperators

theorem sel_ite {α : Type} (p : Prop) [Decidable p] (x y : α) :
    Scalar.select (if p then 1#1 else 0#1) x y = if p then x else y := by
  split <;> rfl

theorem sle_tab : ∀ r j : Fin 64,
    IntOp.cmpi CmpIPredicate.sle (BitVec.ofNat 32 j) (BitVec.ofNat 32 r) = if j ≤ r then 1#1 else 0#1 := by
  decide +kernel

theorem band_tab : ∀ r j : Fin 64,
    IntOp.andi (if j ≤ r then 1#1 else 0#1)
        (IntOp.cmpi CmpIPredicate.sgt (BitVec.ofNat 32 j) (IntOp.subi (BitVec.ofNat 32 r) 16#32))
      = if j ≤ r ∧ (r : ℕ) < (j : ℕ) + 16 then 1#1 else 0#1 := by
  decide +kernel

/-- The triangular mask at an index. -/
theorem pay1_ix : ∀ r j : Fin 64, k1_pay1 (ix2 r j) = if j ≤ r then 1#1 else 0#1 := by
  intro r j
  pointwise [k1_pay1]
  exact sle_tab r j

theorem pay2_T : k1_pay2 (F := Ideal) = T2 tril := by
  refine ext2 fun r j => ?_
  pointwise [k1_pay2, T2_ix, pay1_ix]
  simp only [sel_ite, zero_coe, one_coe, ite_coe, tril]

theorem pay3_T : k1_pay3 (F := Ideal) = T2 band := by
  refine ext2 fun r j => ?_
  pointwise [k1_pay3, T2_ix, pay1_ix]
  simp only [band_tab, sel_ite, zero_coe, one_coe, ite_coe, band]

theorem pay4_T (l : Fin 64 → ℝ) : k1_pay4 (F := Ideal) (T3 (φ := .f32) fun _ _ d => l d) = T2 fun _ d => l d := by
  refine ext2 fun r j => ?_
  pointwise [k1_pay4, T2_ix, T3_ix]

theorem pay5_T : k1_pay5 (F := Ideal) = T2 fun _ _ => 0 := by
  refine ext2 fun r j => ?_
  pointwise [k1_pay5, T2_ix]
  simp only [zero_coe]

theorem pay6_T (y : Mat) (w : Fin 64 → ℝ) :
    k1_pay6 (F := Ideal) (T2 y) (T2 fun r _ => w r) = T4 fun _ _ r d => y r d * w r := by
  refine ext4 fun a b r d => ?_
  pointwise [k1_pay6, T2_ix, T4_ix]
  simp only [mul_coe]

theorem pay7_T (q : Mat) : k1_pay7 (F := Ideal) (T4 (φ := .f32) fun _ _ => q) = T2 q := by
  refine ext2 fun r d => ?_
  pointwise [k1_pay7, T2_ix, T4_ix]

theorem pay8_T (g : Fin 64 → Fin 8 → ℝ) : k1_pay8 (F := Ideal) (T4 (φ := .f32) fun _ _ => g) = T2 g := by
  refine ext2 fun r d => ?_
  pointwise [k1_pay8, T2_ix, T4_ix]

theorem pay9_T (g : Fin 64 → Fin 8 → ℝ) :
    k1_pay9 (F := Ideal) (T4 (φ := .f32) fun _ _ => g) = T2 fun d r => g r d := by
  refine ext2 fun r d => ?_
  pointwise [k1_pay9, pay8_T, T2_ix, T4_ix]

theorem pay10_T (m k v : Mat) :
    k1_pay10 (F := Ideal) (T2 m) (T4 (φ := .f32) fun _ _ => k) (T4 (φ := .f32) fun _ _ => v)
      = T3 fun u => outerE m k v u := by
  refine ext3 fun r e d => ?_
  pointwise [k1_pay10, T2_ix, T3_ix, T4_ix]
  simp only [mul_coe, add_coe, sub_coe, coe_sum, zero_mul, mul_zero, sub_self, Finset.sum_const_zero, zero_add, outerE]

theorem pay11_T (z : Fin 64 → Fin 8 → ℝ) :
    k1_pay11 (F := Ideal) (T4 (φ := .f32) fun _ _ => z) = T2 fun _ r => sg (z r 3) := by
  refine ext2 fun r e => ?_
  pointwise [k1_pay11, pay9_T, T2_ix, T3_ix, T4_ix]
  simp only [logistic_coe]

theorem pay12_T (z : Fin 64 → Fin 8 → ℝ) :
    k1_pay12 (F := Ideal) (T4 (φ := .f32) fun _ _ => z)
      = T2 fun r _ => -2 * (lit 0x3DCCCCCD#32 * sg (z r 1)) := by
  refine ext2 fun r e => ?_
  pointwise [k1_pay12, pay8_T, T2_ix, T3_ix, T4_ix]
  simp only [logistic_coe, bits_tenth, bits_neg_two, mul_coe, add_coe, sub_coe, coe_sum]

theorem pay13_T (z : Fin 64 → Fin 8 → ℝ) :
    k1_pay13 (F := Ideal) (T2 tril) (T2 z) = T2 fun r _ => cumz (fun t => z t 2) r := by
  refine ext2 fun r e => ?_
  pointwise [k1_pay13, T2_ix, T3_ix, T4_ix]
  simp only [exp_coe, zero_coe, sub_coe, log1p_exp_coe, EReal.coe_le_coe_iff, ite_coe, mul_coe, add_coe, sub_coe, coe_sum, cumz, lsg, zero_add]

theorem pay14_T (z : Fin 64 → Fin 8 → ℝ) :
    k1_pay14 (F := Ideal) (T2 tril) (T2 z) = T2 fun r _ => Real.exp (cumz (fun t => z t 2) r) := by
  refine ext2 fun r e => ?_
  pointwise [k1_pay14, pay13_T, T2_ix, T3_ix, T4_ix]
  simp only [exp_coe]

theorem pay15_T (z : Fin 64 → Fin 8 → ℝ) :
    k1_pay15 (F := Ideal) k1_pay1 (T2 tril) (T2 band) (T2 z) (T2 fun d r => z r d) (T2 fun _ r => sg (z r 3))
        (T2 fun r _ => -2 * (lit 0x3DCCCCCD#32 * sg (z r 1)))
      = T2 fun r u => ∑ s, scanW (fun t => z t 2) r s * gradW z s u := by
  refine ext2 fun r e => ?_
  pointwise [k1_pay15, pay1_ix, pay13_T, T2_ix, T3_ix, T4_ix]
  simp only [exp_coe, zero_coe, sub_coe, log1p_exp_coe, EReal.coe_le_coe_iff, ite_coe, mul_coe, add_coe, sub_coe,
    coe_sum, zero_add, sel_ite]
  refine congrArg _ (Finset.sum_congr rfl fun s _ => ?_)
  unfold scanW gradW
  split_ifs with h
  · congr 3
    unfold cumz
    exact Finset.sum_congr rfl fun j _ => mul_comm _ _
  · ring

theorem pay16_T (v2 v9 v12 v30 v31 v56 v58) (w : Mat)
    (h : k1_pay15 (F := Ideal) v2 v9 v12 v30 v31 v56 v58 = T2 w) :
    k1_pay16 (F := Ideal) v2 v9 v12 v30 v31 v56 v58 = T2 w := h

theorem pay17_T (v2 v9 v12 v30 v31 v56 v58) (w : Mat)
    (h : k1_pay15 (F := Ideal) v2 v9 v12 v30 v31 v56 v58 = T2 w) :
    k1_pay17 (F := Ideal) v2 v9 v12 v30 v31 v56 v58 = T2 fun _ _ => 0 := by
  refine ext2 fun r e => ?_
  pointwise [k1_pay17, k1_pay16, h, T2_ix]
  simp only [sub_coe, sub_self]

theorem pay18_T (u : Fin 64 → Mat) : k1_pay18 (F := Ideal) (T3 u) = T3 u := by
  refine ext3 fun r e d => ?_
  pointwise [k1_pay18, T3_ix]

theorem pay19_T (v2 v9 v12 v30 v31 v56 v58) (w : Mat) (u : Fin 64 → Mat)
    (h : k1_pay15 (F := Ideal) v2 v9 v12 v30 v31 v56 v58 = T2 w) :
    k1_pay19 (F := Ideal) v2 v9 v12 v30 v31 (T3 u) v56 v58 = T3 fun _ _ _ => 0 := by
  refine ext3 fun r e d => ?_
  pointwise [k1_pay19, k1_pay16, k1_pay18, h, T2_ix, T3_ix]
  simp only [sub_coe, sub_self, mul_coe, mul_zero, coe_sum, Finset.sum_const_zero, zero_add]

theorem pay20_T (st : Mat) (p : Fin 64 → ℝ) (ws : Mat) (u : Fin 64 → Mat) :
    k1_pay20 (F := Ideal) (T2 st) (T2 fun r _ => p r) (T2 ws) (T2 fun _ _ => 0) (T3 u) (T3 fun _ _ _ => 0)
      = T3 fun r e d => (∑ j, ws r j * u j e d) + p r * st e d := by
  refine ext3 fun r e d => ?_
  pointwise [k1_pay20, T2_ix, T3_ix]
  simp only [mul_coe, add_coe, coe_sum, zero_mul, Finset.sum_const_zero, zero_add]

theorem pay21_T (a b c d e f) (s : Fin 64 → Mat) (h : k1_pay20 (F := Ideal) a b c d e f = T3 s) :
    k1_pay21 (F := Ideal) a b c d e f = T2 (s 63) := by
  refine ext2 fun r j => ?_
  pointwise [k1_pay21, h, T2_ix, T3_ix]

theorem pay22_T (a b c d e f) (s : Fin 64 → Mat) (h : k1_pay20 (F := Ideal) a b c d e f = T3 s) :
    k1_pay22 (F := Ideal) a b c d e f = T3 fun r => nrm (s r) := by
  refine ext3 fun r i j => ?_
  pointwise [k1_pay22, h, T2_ix, T3_ix]
  simp only [bits_e12, bits_101, bits_e6, mul_coe, coe_sum, add_coe]
  rw [sqrt_coe _ (add_nonneg (sumsq_nonneg _) e12_pos.le)]
  simp only [mul_coe, add_coe]
  exact div_coe _ _ (nrmDen_pos (s r)).ne'

theorem pay23_T (a b c d e f) (s : Fin 64 → Mat) (h : k1_pay22 (F := Ideal) a b c d e f = T3 s) :
    k1_pay23 (F := Ideal) a b c d e f = T3 fun r => gram (s r) := by
  refine ext3 fun r i j => ?_
  pointwise [k1_pay23, h, T2_ix, T3_ix]
  simp only [sub_coe, sub_self, zero_mul, mul_zero, mul_coe, coe_sum, add_coe, Finset.sum_const_zero, zero_add, gram]

theorem pay24_T (a b c d e f) (g : Fin 64 → Mat) (h : k1_pay23 (F := Ideal) a b c d e f = T3 g) :
    k1_pay24 (F := Ideal) a b c d e f = T3 g := h

theorem pay25_T (a b c d e f) (g : Fin 64 → Mat) (h : k1_pay23 (F := Ideal) a b c d e f = T3 g) :
    k1_pay25 (F := Ideal) a b c d e f = T3 g := h

theorem pay26_T (a b c d e f) (g : Fin 64 → Mat) (h : k1_pay23 (F := Ideal) a b c d e f = T3 g) :
    k1_pay26 (F := Ideal) a b c d e f = T3 fun _ _ _ => 0 := by
  refine ext3 fun r i j => ?_
  pointwise [k1_pay26, k1_pay24, k1_pay25, h, T2_ix, T3_ix]
  simp only [sub_coe, sub_self, zero_mul, mul_zero, mul_coe, coe_sum, add_coe, Finset.sum_const_zero, zero_add]

theorem pay27_T (x g : Fin 64 → Mat) :
    k1_pay27 (F := Ideal) (T3 x) (T3 g) (T3 g) (T3 g) (T3 fun _ _ _ => 0) (constant S64x64x64 .f32 0x00000000#32)
      = T3 fun r => nsWith (lit 0x4102813F#32) (lit 0xC1B3DDC9#32) (lit 0x417E0F71#32) (x r) (g r) (mm (g r) (g r)) := by
  refine ext3 fun r i j => ?_
  pointwise [k1_pay27, T2_ix, T3_ix]
  simp only [bits_a1, bits_b1, bits_c1, sub_coe, sub_self, zero_mul, mul_zero, mul_coe, coe_sum, add_coe,
    Finset.sum_const_zero, zero_add, nsWith, mm]

theorem pay28_T (a b c d e f) (s : Fin 64 → Mat) (h : k1_pay27 (F := Ideal) a b c d e f = T3 s) :
    k1_pay28 (F := Ideal) a b c d e f = T3 fun r => gram (s r) := by
  refine ext3 fun r i j => ?_
  pointwise [k1_pay28, h, T2_ix, T3_ix]
  simp only [sub_coe, sub_self, zero_mul, mul_zero, mul_coe, coe_sum, add_coe, Finset.sum_const_zero, zero_add, gram]

theorem pay31_T (a b c d e f) (g : Fin 64 → Mat) (h : k1_pay28 (F := Ideal) a b c d e f = T3 g) :
    k1_pay31 (F := Ideal) a b c d e f = T3 fun _ _ _ => 0 := by
  refine ext3 fun r i j => ?_
  pointwise [k1_pay31, k1_pay29, k1_pay30, h, T2_ix, T3_ix]
  simp only [sub_coe, sub_self, zero_mul, mul_zero, mul_coe, coe_sum, add_coe, Finset.sum_const_zero, zero_add]

theorem pay32_T (a b c d e f) (g : Fin 64 → Mat) (h : k1_pay28 (F := Ideal) a b c d e f = T3 g) :
    k1_pay32 (F := Ideal) a b c d e f = T3 fun r => mm (g r) (g r) := by
  refine ext3 fun r i j => ?_
  pointwise [k1_pay32, k1_pay29, k1_pay30, h, T2_ix, T3_ix]
  simp only [mul_coe, coe_sum, mm]

theorem pay33_T (x g h : Fin 64 → Mat) :
    k1_pay33 (F := Ideal) (T3 x) (T3 g) (T3 fun _ _ _ => 0) (T3 h)
      = T3 fun r => nsWith (lit 0x40815FAF#32) (lit 0xC033C54E#32) (lit 0x3F00012B#32) (x r) (g r) (h r) := by
  refine ext3 fun r i j => ?_
  pointwise [k1_pay33, T2_ix, T3_ix]
  simp only [bits_a2, bits_b2, bits_c2, sub_coe, sub_self, zero_mul, mul_zero, mul_coe, coe_sum, add_coe,
    Finset.sum_const_zero, zero_add, nsWith]

theorem pay34_T (a b c d) (s : Fin 64 → Mat) (h : k1_pay33 (F := Ideal) a b c d = T3 s) :
    k1_pay34 (F := Ideal) a b c d = T3 fun r => gram (s r) := by
  refine ext3 fun r i j => ?_
  pointwise [k1_pay34, h, T2_ix, T3_ix]
  simp only [sub_coe, sub_self, zero_mul, mul_zero, mul_coe, coe_sum, add_coe, Finset.sum_const_zero, zero_add, gram]

theorem pay35_T (a b c d) (s : Fin 64 → Mat) (h : k1_pay34 (F := Ideal) a b c d = T3 s) :
    k1_pay35 (F := Ideal) a b c d = T3 fun r => mm (s r) (s r) := by
  refine ext3 fun r i j => ?_
  pointwise [k1_pay35, h, T2_ix, T3_ix]
  simp only [sub_coe, sub_self, zero_mul, mul_zero, mul_coe, coe_sum, add_coe, Finset.sum_const_zero, zero_add, mm]

theorem pay36_T (x g h : Fin 64 → Mat) :
    k1_pay36 (F := Ideal) (T3 x) (T3 g) (T3 h)
      = T3 fun r => nsWith (lit 0x40791116#32) (lit 0xC0317061#32) (lit 0x3F018D77#32) (x r) (g r) (h r) := by
  refine ext3 fun r i j => ?_
  pointwise [k1_pay36, T2_ix, T3_ix]
  simp only [bits_a3, bits_b3, bits_c3, sub_coe, sub_self, zero_mul, mul_zero, mul_coe, coe_sum, add_coe,
    Finset.sum_const_zero, zero_add, nsWith]

theorem pay37_T (z : Fin 64 → Fin 8 → ℝ) :
    k1_pay37 (F := Ideal) (T2 fun d r => z r d) = T2 fun _ r => lsg (z r 0) := by
  refine ext2 fun r e => ?_
  pointwise [k1_pay37, T2_ix]
  simp only [exp_coe, zero_coe, sub_coe, log1p_exp_coe, EReal.coe_le_coe_iff, ite_coe, lsg]

theorem pay38_T (z : Fin 64 → Fin 8 → ℝ) :
    k1_pay38 (F := Ideal) (T2 z) = T2 fun r _ => lsg (z r 0) := by
  refine ext2 fun r e => ?_
  pointwise [k1_pay38, T2_ix]
  simp only [exp_coe, zero_coe, sub_coe, log1p_exp_coe, EReal.coe_le_coe_iff, ite_coe, lsg]

theorem pay39_T (z : Fin 64 → ℝ) (m : Mat) (x : Fin 64 → Mat) :
    k1_pay39 (F := Ideal) k1_pay1 (T2 tril) (T2 m) (T3 x) (T2 fun _ r => lsg (z r)) (T2 fun r _ => lsg (z r))
        (constant S64x1 .f32 0x00000000#32)
      = T3 fun r => mAll z m x r := by
  refine ext3 fun r i j => ?_
  pointwise [k1_pay39, pay1_ix, T2_ix, T3_ix]
  simp only [exp_coe, zero_coe, sub_coe, sub_self, zero_mul, mul_zero, ite_coe, mul_coe, add_coe,
    coe_sum, zero_add, add_zero, sel_ite, Finset.sum_const_zero, ite_self]
  unfold mAll
  refine congrArg _ (congrArg₂ _ (Finset.sum_congr rfl fun s _ => ?_) rfl)
  unfold scanW
  split_ifs with h
  · congr 3
    unfold cumz
    exact Finset.sum_congr rfl fun j _ => mul_comm _ _
  · ring

theorem pay40_T (a b c d e f g) (s : Fin 64 → Mat) (h : k1_pay39 (F := Ideal) a b c d e f g = T3 s) :
    k1_pay40 (F := Ideal) a b c d e f g = T2 (s 63) := by
  refine ext2 fun r j => ?_
  pointwise [k1_pay40, h, T2_ix, T3_ix]

theorem pay41_T (a b c d e f g) (s : Fin 64 → Mat) (h : k1_pay39 (F := Ideal) a b c d e f g = T3 s)
    (l : Fin 64 → ℝ) (q : Mat) :
    k1_pay41 (F := Ideal) a b (T2 fun _ d => l d) c (T2 q) d e f g
      = T2 fun r => yRow l fun d => ∑ e, s r e d * q r e := by
  refine ext2 fun r j => ?_
  pointwise [k1_pay41, h, T2_ix, T3_ix]
  simp only [bits_64, bits_e6, mul_coe, coe_sum, add_coe, one_coe]
  rw [div_coe _ _ l64_pos.ne', add_coe, rsqrt_coe]
  · simp only [mul_coe, yRow]
  · have h1 := e6_pos
    have h2 := l64_pos
    have h3 : 0 ≤ ∑ x, (∑ e, s r e x * q r e) * (∑ e, s r e x * q r e) :=
      Finset.sum_nonneg fun _ _ => mul_self_nonneg _
    positivity

theorem pay42_T (z : Fin 64 → Fin 8 → ℝ) : k1_pay42 (F := Ideal) (T2 z) = T2 fun r _ => sg (z r 4) := by
  refine ext2 fun r e => ?_
  pointwise [k1_pay42, T2_ix]
  simp only [logistic_coe]

end Cert.Proof
end
-- ==== Proof.K1Trip.lean ====
module

public import proofs.«01_k».proof.Proof.K1
public import proofs.«01_k».proof.Proof.Gen.KernelIdeal.Frame

@[expose] public section

noncomputable section

namespace Cert.Proof

open Idealize.ShloMosaic Cert.KernelIdeal Cert.KernelIdeal.Gen
open Idealize.ShloMosaic.TcCoe
open scoped BigOperators

/-- One trip of the chunk loop on real data: the memory and momentum it carries on, and the rows it stores. -/
theorem trip_T (𝒱 : Variants) (c : Dev nD) (bd : Option 𝒱.V) (i : grid1.Coords) (arg1 : Memref sig .tc .vmem S1x1x1024x64 .f32) (harg1 : arg1.IsWhole) (arg2 : Memref sig .tc .vmem S1x1x1024x64 .f32) (harg2 : arg2.IsWhole) (arg3 : Memref sig .tc .vmem S1x1x1024x64 .f32) (harg3 : arg3.IsWhole) (arg4 : Memref sig .tc .vmem S1x1x1024x8 .f32) (harg4 : arg4.IsWhole) (arg5 : Memref sig .tc .vmem S1x1x64 .f32) (harg5 : arg5.IsWhole) (arg6 : Memref sig .tc .vmem S1x1x1024x64 .f32) (harg6 : arg6.IsWhole)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (t : Fin k1_t1_loop.trips)
    (l : Fin 64 → ℝ) (q k v : Mat) (g : Fin 64 → Fin 8 → ℝ) (m st : Mat)
    (h1 : View.readAt (Elt Ideal) arg1.view (Rect.unit (s := S1x1x1024x64) (k1_off1 t) S1x1x64x64.size (k1_off1_inb t)).toLoadRect X1 = T4 (φ := .f32) fun _ _ => q)
    (h2 : View.readAt (Elt Ideal) arg2.view (Rect.unit (s := S1x1x1024x64) (k1_off1 t) S1x1x64x64.size (k1_off1_inb t)).toLoadRect X2 = T4 (φ := .f32) fun _ _ => k)
    (h3 : View.readAt (Elt Ideal) arg3.view (Rect.unit (s := S1x1x1024x64) (k1_off1 t) S1x1x64x64.size (k1_off1_inb t)).toLoadRect X3 = T4 (φ := .f32) fun _ _ => v)
    (h4 : View.readAt (Elt Ideal) arg4.view (Rect.unit (s := S1x1x1024x8) (k1_off2 t) S1x1x64x8.size (k1_off2_inb t)).toLoadRect X4 = T4 (φ := .f32) fun _ _ => g) :
   (tripR_k1_t1 (F := Ideal) 𝒱 c bd i arg1 harg1 arg2 harg2 arg3 harg3 arg4 harg4 arg5 harg5 arg6 harg6 (T3 (φ := .f32) fun _ _ d => l d) X1 X2 X3 X4 t (T2 m, T2 st),
     tripL_k1_t1 (F := Ideal) 𝒱 c bd i arg1 harg1 arg2 harg2 arg3 harg3 arg4 harg4 arg5 harg5 arg6 harg6 (T3 (φ := .f32) fun _ _ d => l d) X1 X2 X3 X4 t (T2 m, T2 st))
    = ((T2 (mAll (fun r => g r 0) m (fun r => pe (sAll g m st k v r)) 63), T2 (sAll g m st k v 63)),
        [⟨Rect.unit (s := S1x1x1024x64) (k1_off1 t) S1x1x64x64.size (k1_off1_inb t),
          T4 (φ := .f32) fun _ _ r d =>
            yRow l (fun d => ∑ e, mAll (fun r => g r 0) m (fun r => pe (sAll g m st k v r)) r e d * q r e) d * sg (g r 4)⟩]) := by
  have e15 := pay15_T g
  have e16 := pay16_T _ _ _ _ _ _ _ _ e15
  have e17 := pay17_T _ _ _ _ _ _ _ _ e15
  have e19 := pay19_T _ _ _ _ _ _ _ _ (fun u => outerE m k v u) e15
  have e20 : _ = T3 (φ := .f32) fun r => sAll g m st k v r :=
    pay20_T st (fun r => Real.exp (cumz (fun t => g t 2) r))
      (fun r u => ∑ s, scanW (fun t => g t 2) r s * gradW g s u) (fun u => outerE m k v u)
  have e21 := pay21_T _ _ _ _ _ _ _ e20
  have e22 := pay22_T _ _ _ _ _ _ _ e20
  have e23 := pay23_T _ _ _ _ _ _ _ e22
  have e24 := pay24_T _ _ _ _ _ _ _ e23
  have e25 := pay25_T _ _ _ _ _ _ _ e23
  have e26 := pay26_T _ _ _ _ _ _ _ e23
  have e27 : _ = T3 (φ := .f32) fun r => ns1 (nrm (sAll g m st k v r)) :=
    pay27_T (fun r => nrm (sAll g m st k v r)) (fun r => gram (nrm (sAll g m st k v r)))
  have e28 := pay28_T _ _ _ _ _ _ _ e27
  have e31 := pay31_T _ _ _ _ _ _ _ e28
  have e32 := pay32_T _ _ _ _ _ _ _ e28
  have e33 : _ = T3 (φ := .f32) fun r => ns2 (ns1 (nrm (sAll g m st k v r))) :=
    pay33_T (fun r => ns1 (nrm (sAll g m st k v r))) (fun r => gram (ns1 (nrm (sAll g m st k v r)))) (fun r => mm (gram (ns1 (nrm (sAll g m st k v r)))) (gram (ns1 (nrm (sAll g m st k v r)))))
  have e34 := pay34_T _ _ _ _ _ e33
  have e35 := pay35_T _ _ _ _ _ e34
  have e36 : _ = T3 (φ := .f32) fun r => pe (sAll g m st k v r) :=
    pay36_T (fun r => ns2 (ns1 (nrm (sAll g m st k v r)))) (fun r => gram (ns2 (ns1 (nrm (sAll g m st k v r))))) (fun r => mm (gram (ns2 (ns1 (nrm (sAll g m st k v r))))) (gram (ns2 (ns1 (nrm (sAll g m st k v r))))))
  have e39 := pay39_T (fun r => g r 0) m (fun r => pe (sAll g m st k v r))
  have e40 := pay40_T _ _ _ _ _ _ _ _ e39
  have e41 := pay41_T _ _ _ _ _ _ _ _ e39 l q
  unfold tripR_k1_t1 tripL_k1_t1 trip_k1_t1
  dsimp only
  simp only [trip_k1_t1.sl.r, trip_k1_t1.sl.r_1, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.r_10, trip_k1_t1.sl.r_11, trip_k1_t1.sl.r_12, trip_k1_t1.sl.r_13, trip_k1_t1.sl.r_14, trip_k1_t1.sl.r_15, trip_k1_t1.sl.r_16, trip_k1_t1.sl.r_17, trip_k1_t1.sl.r_18, trip_k1_t1.sl.r_19, trip_k1_t1.sl.r_20, trip_k1_t1.sl.r_21, trip_k1_t1.sl.r_22, trip_k1_t1.sl.r_23, trip_k1_t1.sl.r_24, trip_k1_t1.sl.r_25, trip_k1_t1.sl.r_26, trip_k1_t1.sl.r_27, trip_k1_t1.sl.r_28, trip_k1_t1.sl.r_29, trip_k1_t1.sl.cst_84, trip_k1_t1.sl.cst_47]
  simp only [h1, h2, h3, h4, pay2_T, pay3_T, pay4_T, pay7_T, pay8_T, pay9_T, pay10_T, pay11_T, pay12_T, pay14_T, e16, e17,
    pay18_T, e19, e21, e22, e23, e24, e25, e26, e27, e28, e31, e32, e33, e34, e35, e36, pay37_T, pay38_T, e40, e41, pay42_T, pay6_T]
end Cert.Proof
end
-- ==== Proof.K1Loop.lean ====
module

public import proofs.«01_k».proof.Proof.K1Trip
public import Idealize.ShloMosaic.Lib.Pipeline.ValueKit

@[expose] public section

noncomputable section

namespace Cert.Proof

open Idealize.ShloMosaic Cert.KernelIdeal Cert.KernelIdeal.Gen
open Idealize.ShloMosaic.TcCoe
open scoped BigOperators

theorem iv_tab : ∀ t : Fin 16,
    BitVec.toNat (Scalar.indexCast (Scalar.muli (Scf.iv 0#32 1#32 t.val) 64#32)) = 64 * t.val := by decide +kernel

theorem off1_eq (t : Fin 16) : k1_off1 t = ![0, 0, 64 * t.val, 0] := by
  unfold k1_off1
  rw [← iv_tab t]

theorem off2_eq (t : Fin 16) : k1_off2 t = ![0, 0, 64 * t.val, 0] := by
  unfold k1_off2
  rw [← iv_tab t]

/-- The chunk's rows of a loaded 64-column block. -/
theorem load64 (arg : Memref sig .tc .vmem S1x1x1024x64 .f32) (h : arg.IsWhole) (f : ℕ → Fin 64 → ℝ) (t : Fin 16) :
    View.readAt (Elt Ideal) arg.view (Rect.unit (s := S1x1x1024x64) (k1_off1 t) S1x1x64x64.size (k1_off1_inb t)).toLoadRect
        (h.unread (T4 (φ := .f32) fun _ _ (s : Fin 1024) d => f s d))
      = T4 (φ := .f32) fun _ _ => rows f t := by
  refine ext4 fun a b r d => ?_
  rw [View.readAt_eq_ld, h.read_unread]
  have hi : r.val + 64 * t.val < 1024 := by have := r.isLt; have := t.isLt; omega
  rw [View.ld_unit_apply_of _ _ _ _ _ (ix4 (0 : Fin 1) (0 : Fin 1) (⟨64 * t.val + r.val, by omega⟩ : Fin 1024) d)]
  · rfl
  · intro x
    refine Eq.trans ?_ (congrArg (· + _) (congrFun (off1_eq t) x).symm)
    fin_cases x <;> simp [ix4] <;> omega

/-- The chunk's rows of the loaded gate block. -/
theorem load8 (arg : Memref sig .tc .vmem S1x1x1024x8 .f32) (h : arg.IsWhole) (f : ℕ → Fin 8 → ℝ) (t : Fin 16) :
    View.readAt (Elt Ideal) arg.view (Rect.unit (s := S1x1x1024x8) (k1_off2 t) S1x1x64x8.size (k1_off2_inb t)).toLoadRect
        (h.unread (T4 (φ := .f32) fun _ _ (s : Fin 1024) d => f s d))
      = T4 (φ := .f32) fun _ _ => rows f t := by
  refine ext4 fun a b r d => ?_
  rw [View.readAt_eq_ld, h.read_unread]
  have hi : r.val + 64 * t.val < 1024 := by have := r.isLt; have := t.isLt; omega
  rw [View.ld_unit_apply_of _ _ _ _ _ (ix4 (0 : Fin 1) (0 : Fin 1) (⟨64 * t.val + r.val, by omega⟩ : Fin 1024) d)]
  · rfl
  · intro x
    refine Eq.trans ?_ (congrArg (· + _) (congrFun (off2_eq t) x).symm)
    fin_cases x <;> simp [ix4] <;> omega

/-- The carried pair before trip `n`, and the form of every piece stored before it. -/
theorem loop_T (𝒱 : Variants) (c : Dev nD) (bd : Option 𝒱.V) (i : grid1.Coords) (arg1 : Memref sig .tc .vmem S1x1x1024x64 .f32) (harg1 : arg1.IsWhole) (arg2 : Memref sig .tc .vmem S1x1x1024x64 .f32) (harg2 : arg2.IsWhole) (arg3 : Memref sig .tc .vmem S1x1x1024x64 .f32) (harg3 : arg3.IsWhole) (arg4 : Memref sig .tc .vmem S1x1x1024x8 .f32) (harg4 : arg4.IsWhole) (arg5 : Memref sig .tc .vmem S1x1x64 .f32) (harg5 : arg5.IsWhole) (arg6 : Memref sig .tc .vmem S1x1x1024x64 .f32) (harg6 : arg6.IsWhole)
    (l : Fin 64 → ℝ) (q k v : ℕ → Fin 64 → ℝ) (g : ℕ → Fin 8 → ℝ) (n : ℕ) (hn : n ≤ 16) :
    let S := st_k1_t1 (F := Ideal) 𝒱 c bd i arg1 harg1 arg2 harg2 arg3 harg3 arg4 harg4 arg5 harg5 arg6 harg6 (T3 (φ := .f32) fun _ _ d => l d)
      (harg1.unread (T4 (φ := .f32) fun _ _ (s : Fin 1024) d => q s d)) (harg2.unread (T4 (φ := .f32) fun _ _ (s : Fin 1024) d => k s d))
      (harg3.unread (T4 (φ := .f32) fun _ _ (s : Fin 1024) d => v s d)) (harg4.unread (T4 (φ := .f32) fun _ _ (s : Fin 1024) d => g s d))
      (k1_pay5, k1_pay5) n
    S.1 = (T2 (chunkSt g k v n).1, T2 (chunkSt g k v n).2) ∧
      ∀ p ∈ S.2, ∃ t : Fin 16, p = ⟨Rect.unit (s := S1x1x1024x64) (k1_off1 t) S1x1x64x64.size (k1_off1_inb t),
        T4 (φ := .f32) fun _ _ r d => chunkY l g k v q t r d⟩ := by
  induction n with
  | zero =>
    refine ⟨?_, ?_⟩
    · rw [st_k1_t1_zero, pay5_T]; rfl
    · intro p hp; exact absurd hp List.not_mem_nil
  | succ n ih =>
    obtain ⟨h1, h2⟩ := ih (by omega)
    have hs := st_k1_t1_succ (F := Ideal) 𝒱 c bd i arg1 harg1 arg2 harg2 arg3 harg3 arg4 harg4 arg5 harg5 arg6 harg6 (T3 (φ := .f32) fun _ _ d => l d)
      (harg1.unread (T4 (φ := .f32) fun _ _ (s : Fin 1024) d => q s d)) (harg2.unread (T4 (φ := .f32) fun _ _ (s : Fin 1024) d => k s d))
      (harg3.unread (T4 (φ := .f32) fun _ _ (s : Fin 1024) d => v s d)) (harg4.unread (T4 (φ := .f32) fun _ _ (s : Fin 1024) d => g s d))
      (k1_pay5, k1_pay5) (⟨n, hn⟩ : Fin 16)
    have ht := trip_T 𝒱 c bd i arg1 harg1 arg2 harg2 arg3 harg3 arg4 harg4 arg5 harg5 arg6 harg6
      (harg1.unread (T4 (φ := .f32) fun _ _ (s : Fin 1024) d => q s d)) (harg2.unread (T4 (φ := .f32) fun _ _ (s : Fin 1024) d => k s d))
      (harg3.unread (T4 (φ := .f32) fun _ _ (s : Fin 1024) d => v s d)) (harg4.unread (T4 (φ := .f32) fun _ _ (s : Fin 1024) d => g s d))
      (⟨n, hn⟩ : Fin 16) l (rows q n) (rows k n) (rows v n) (rows g n) (chunkSt g k v n).1 (chunkSt g k v n).2
      (load64 arg1 harg1 q _) (load64 arg2 harg2 k _) (load64 arg3 harg3 v _) (load8 arg4 harg4 g _)
    rw [Prod.mk.injEq] at ht
    dsimp only at hs h1 h2 ⊢
    rw [h1, ht.1, ht.2] at hs
    rw [hs]
    refine ⟨rfl, ?_⟩
    intro p hp
    rcases List.mem_append.1 hp with hp | hp
    · rw [List.mem_singleton] at hp
      exact ⟨⟨n, hn⟩, hp⟩
    · exact h2 p hp

/-- What a grid point leaves in the output block. -/
theorem out1_T (c : Dev nD) (i : grid1.Coords) (arg1 : Memref sig .tc .vmem S1x1x1024x64 .f32) (harg1 : arg1.IsWhole) (arg2 : Memref sig .tc .vmem S1x1x1024x64 .f32) (harg2 : arg2.IsWhole) (arg3 : Memref sig .tc .vmem S1x1x1024x64 .f32) (harg3 : arg3.IsWhole) (arg4 : Memref sig .tc .vmem S1x1x1024x8 .f32) (harg4 : arg4.IsWhole) (arg5 : Memref sig .tc .vmem S1x1x64 .f32) (harg5 : arg5.IsWhole) (arg6 : Memref sig .tc .vmem S1x1x1024x64 .f32) (harg6 : arg6.IsWhole)
    (l : Fin 64 → ℝ) (q k v : ℕ → Fin 64 → ℝ) (g : ℕ → Fin 8 → ℝ) :
    out1_A_5 (F := Ideal) c i arg1 harg1 arg2 harg2 arg3 harg3 arg4 harg4 arg5 harg5 arg6 harg6 (T4 (φ := .f32) fun _ _ (s : Fin 1024) d => q s d)
      (T4 (φ := .f32) fun _ _ (s : Fin 1024) d => k s d) (T4 (φ := .f32) fun _ _ (s : Fin 1024) d => v s d)
      (T4 (φ := .f32) fun _ _ (s : Fin 1024) d => g s d) (T3 (φ := .f32) fun _ _ d => l d)
      = T4 (φ := .f32) fun _ _ (s : Fin 1024) d => outY l g k v q s d := by
  funext y
  unfold out1_A_5
  refine View.read_writes_apply_of_pieces VO1_5 _ _ _ ?_ y (cover1_A_5 ..)
  have hv : View.readAt (Elt Ideal) arg5.view (Rect.unit ![0, 0, 0] S1x1x64.size inb_S1x1x64_S1x1x64_0_0_0).toLoadRect
      (harg5.unread (T3 (φ := .f32) fun _ _ d => l d)) = (T3 (φ := .f32) fun _ _ d => l d) := by
    rw [View.readAt_eq_ld, harg5.read_unread]
    exact View.ld_unit_lit _ _ (by decide)
  intro p hp x
  unfold kernelRun1_A at hp
  dsimp only at hp
  rw [hv] at hp
  obtain ⟨t, rfl⟩ := (loop_T _ c none i arg1 harg1 arg2 harg2 arg3 harg3 arg4 harg4 arg5 harg5 arg6 harg6 l q k v g 16 le_rfl).2 p hp
  have ht := t.isLt
  obtain ⟨a, b, r, d, rfl⟩ : ∃ a b r d, x = ix4 (n0 := 1) (n1 := 1) (n2 := 64) (n3 := 64) a b r d := ⟨_, _, _, _, eq_ix4 x⟩
  have hi : 64 * t.val + r.val < 1024 := by have := r.isLt; omega
  have e : (Rect.unit (s := S1x1x1024x64) (k1_off1 t) S1x1x64x64.size (k1_off1_inb t)).emb (ix4 a b r d)
      = ix4 (0 : Fin 1) (0 : Fin 1) (⟨64 * t.val + r.val, hi⟩ : Fin 1024) d := by
    funext x
    apply Fin.ext
    refine (Rect.idx_unit_val _ _ _ _ _).trans ?_
    refine (congrArg (· + _) (congrFun (off1_eq t) x)).trans ?_
    fin_cases x <;> simp [ix4] <;> omega
  show (T4 (φ := .f32) fun _ _ r d => chunkY l g k v q t r d) (ix4 a b r d) = _
  rw [e, T4_ix, T4_ix]
  unfold outY
  have h1 : (64 * t.val + r.val) / 64 = t.val := by have := r.isLt; omega
  have h2 : (⟨(64 * t.val + r.val) % 64, Nat.mod_lt _ (by norm_num)⟩ : Fin 64) = r := by
    apply Fin.ext; have := r.isLt; show (64 * t.val + r.val) % 64 = r.val; omega
  rw [h2]
  show _ = ((chunkY l g k v q ((64 * t.val + r.val) / 64) r d : ℝ) : EReal)
  rw [h1]

end Cert.Proof
end
-- ==== Proof.KArr1.lean ====
module

public import proofs.«01_k».proof.Proof.Args
public import proofs.«01_k».proof.Proof.K1Loop

@[expose] public section

set_option maxRecDepth 16384

noncomputable section

namespace Cert.Proof

open Idealize.ShloMosaic Cert.KernelIdeal Cert.KernelIdeal.Gen
open Idealize.ShloMosaic.TcCoe
open scoped BigOperators

variable {V : (c : Dev nD) → (b : Ref sig .tc) → Buf (Elt Ideal) ((c : Thread nD τ).loc b)} {a : Args} (c : Dev nD)

/-- What the second kernel finds in its operands. -/
structure In1 (V : (c : Dev nD) → (b : Ref sig .tc) → Buf (Elt Ideal) ((c : Thread nD τ).loc b)) (a : Args) (c : Dev nD) : Prop where
  h0 : V c main_v35 = T4 (φ := .f32) fun b h (t : Fin 1024) d => a.qf b t (col h d)
  h1 : V c main_v37 = T4 (φ := .f32) fun b h (t : Fin 1024) d => a.kf b t (col h d)
  h2 : V c main_v39 = T4 (φ := .f32) fun b h (t : Fin 1024) d => a.vf b t (col h d)
  h3 : V c main_v41 = T4 (φ := .f32) fun b (h : Fin 8) (t : Fin 1024) (g : Fin 8) => a.gf b h t g
  h4 : V c main_v42 = T3 (φ := .f32) fun b (_ : Fin 1) d => a.ln b d

/-- The sequence and the head of a grid point of the second kernel. -/
def bOf1 (t : Fin cfg1.N) : Fin 2 := ⟨(grid1.coords t 0).val / 8, (by decide +kernel : ∀ t : Fin cfg1.N, (grid1.coords t 0).val / 8 < 2) t⟩
def hOf1 (t : Fin cfg1.N) : Fin 8 := ⟨(grid1.coords t 0).val % 8, (by decide +kernel : ∀ t : Fin cfg1.N, (grid1.coords t 0).val % 8 < 8) t⟩

theorem idx1_0 : ∀ t : Fin cfg1.N, (cfg1.win 0).index t = ![(grid1.coords t 0).val / 8, (grid1.coords t 0).val % 8, 0, 0] := by decide +kernel
theorem idx1_1 : ∀ t : Fin cfg1.N, (cfg1.win 1).index t = ![(grid1.coords t 0).val / 8, (grid1.coords t 0).val % 8, 0, 0] := by decide +kernel
theorem idx1_2 : ∀ t : Fin cfg1.N, (cfg1.win 2).index t = ![(grid1.coords t 0).val / 8, (grid1.coords t 0).val % 8, 0, 0] := by decide +kernel
theorem idx1_3 : ∀ t : Fin cfg1.N, (cfg1.win 3).index t = ![(grid1.coords t 0).val / 8, (grid1.coords t 0).val % 8, 0, 0] := by decide +kernel
theorem idx1_5 : ∀ t : Fin cfg1.N, (cfg1.win 5).index t = ![(grid1.coords t 0).val / 8, (grid1.coords t 0).val % 8, 0, 0] := by decide +kernel
theorem idx1_4 : ∀ t : Fin cfg1.N, (cfg1.win 4).index t = ![(grid1.coords t 0).val % 8, 0, 0] := by decide +kernel

theorem iblk1_0 (t : Fin cfg1.N) (h : In1 V a c) :
    iblk1 V c 0 t = T4 (φ := .f32) fun (_ _ : Fin 1) (s : Fin 1024) d => a.qf (bOf1 t) s (col (hOf1 t) d) := by
  refine ext4 fun u v s d => ?_
  have e : iblk1 V c 0 t (ix4 u v s d) = V c main_v35 (ix4 (bOf1 t) (hOf1 t) s d) := by
    blk_ext [iblk1, idx1_0 t, bOf1, hOf1]
  rw [e, h.h0]; rfl

theorem iblk1_1 (t : Fin cfg1.N) (h : In1 V a c) :
    iblk1 V c 1 t = T4 (φ := .f32) fun (_ _ : Fin 1) (s : Fin 1024) d => a.kf (bOf1 t) s (col (hOf1 t) d) := by
  refine ext4 fun u v s d => ?_
  have e : iblk1 V c 1 t (ix4 u v s d) = V c main_v37 (ix4 (bOf1 t) (hOf1 t) s d) := by
    blk_ext [iblk1, idx1_1 t, bOf1, hOf1]
  rw [e, h.h1]; rfl

theorem iblk1_2 (t : Fin cfg1.N) (h : In1 V a c) :
    iblk1 V c 2 t = T4 (φ := .f32) fun (_ _ : Fin 1) (s : Fin 1024) d => a.vf (bOf1 t) s (col (hOf1 t) d) := by
  refine ext4 fun u v s d => ?_
  have e : iblk1 V c 2 t (ix4 u v s d) = V c main_v39 (ix4 (bOf1 t) (hOf1 t) s d) := by
    blk_ext [iblk1, idx1_2 t, bOf1, hOf1]
  rw [e, h.h2]; rfl

theorem iblk1_3 (t : Fin cfg1.N) (h : In1 V a c) :
    iblk1 V c 3 t = T4 (φ := .f32) fun (_ _ : Fin 1) (s : Fin 1024) d => a.gf (bOf1 t) (hOf1 t) s d := by
  refine ext4 fun u v s d => ?_
  have e : iblk1 V c 3 t (ix4 u v s d) = V c main_v41 (ix4 (bOf1 t) (hOf1 t) s d) := by
    blk_ext [iblk1, idx1_3 t, bOf1, hOf1]
  rw [e, h.h3]; rfl

theorem iblk1_4 (t : Fin cfg1.N) (h : In1 V a c) : iblk1 V c 4 t = T3 (φ := .f32) fun (_ _ : Fin 1) d => a.ln (hOf1 t) d := by
  refine ext3 fun u v d => ?_
  have e : iblk1 V c 4 t (ix3 u v d) = V c main_v42 (ix3 (hOf1 t) 0 d) := by
    blk_ext [iblk1, idx1_4 t, hOf1]
  rw [e, h.h4]; rfl

/-- What the second kernel leaves: every head's reads of its memory. -/
theorem arr1_5 (h : In1 V a c) : (dat1 V c).arrAt 5 cfg1.N = T4 (φ := .f32) fun b h (t : Fin 1024) d => a.head b h t d := by
  refine (dat1 V c).arrAt_eq_of_covers 5 _ (by decide +kernel) fun t hf y => ?_
  blk_simp
  rw [after1_5]
  unfold outsAt1
  rw [iblk1_0 c t h, iblk1_1 c t h, iblk1_2 c t h, iblk1_3 c t h, iblk1_4 c t h,
    out1_T c _ _ _ _ _ _ _ _ _ _ _ _ _ (a.ln (hOf1 t)) (fun s d => a.qf (bOf1 t) s (col (hOf1 t) d)) (fun s d => a.kf (bOf1 t) s (col (hOf1 t) d))
      (fun s d => a.vf (bOf1 t) s (col (hOf1 t) d)) (a.gf (bOf1 t) (hOf1 t))]
  have e : (win1_5.blk t).view.emb y = ix4 (bOf1 t) (hOf1 t) (y 2) (y 3) := by
    blk_ext [idx1_5 t, bOf1, hOf1]
  rw [e]
  rfl

end Cert.Proof
end
-- ==== Proof.K2.lean ====
module

public import proofs.«01_k».proof.Proof.Maths
public import proofs.«01_k».proof.Proof.Gen.KernelIdeal.Frame
public import Idealize.ShloMosaic.Lib.Pipeline.ValueKit

@[expose] public section

noncomputable section

namespace Cert.Proof

open Idealize.ShloMosaic Cert.KernelIdeal Cert.KernelIdeal.Gen
open Idealize.ShloMosaic.TcCoe
open scoped BigOperators

theorem head_eq (y : Fin 8 → ℕ → Fin 64 → ℝ) (t : ℕ) (c : Fin 512) (h : Fin 8) (d : Fin 64) (h1 : c.val / 64 = h.val)
    (h2 : c.val % 64 = d.val) :
    ((y h t d : ℝ) : EReal) = ((y ⟨c.val / 64, by omega⟩ t ⟨c.val % 64, by omega⟩ : ℝ) : EReal) := by
  have e1 : h = ⟨c.val / 64, by omega⟩ := Fin.ext h1.symm
  have e2 : d = ⟨c.val % 64, by omega⟩ := Fin.ext h2.symm
  rw [← e1, ← e2]

/-- The heads' rows side by side. -/
theorem k2pay2_T (y : Fin 8 → ℕ → Fin 64 → ℝ) :
    k2_pay2 (F := Ideal) (View.ld (T4 (φ := .f32) fun (_ : Fin 1) h (t : Fin 1024) d => y h t d) r2_0)
      (View.ld (T4 (φ := .f32) fun (_ : Fin 1) h (t : Fin 1024) d => y h t d) r2_1)
      (View.ld (T4 (φ := .f32) fun (_ : Fin 1) h (t : Fin 1024) d => y h t d) r2_2)
      (View.ld (T4 (φ := .f32) fun (_ : Fin 1) h (t : Fin 1024) d => y h t d) r2_3)
      (View.ld (T4 (φ := .f32) fun (_ : Fin 1) h (t : Fin 1024) d => y h t d) r2_4)
      (View.ld (T4 (φ := .f32) fun (_ : Fin 1) h (t : Fin 1024) d => y h t d) r2_5)
      (View.ld (T4 (φ := .f32) fun (_ : Fin 1) h (t : Fin 1024) d => y h t d) r2_6)
      (View.ld (T4 (φ := .f32) fun (_ : Fin 1) h (t : Fin 1024) d => y h t d) r2_7)
      = T2 fun (t : Fin 1024) (c : Fin 512) => y ⟨c.val / 64, by omega⟩ t ⟨c.val % 64, by omega⟩ := by
  refine ext2 fun t c => ?_
  pointwise [k2_pay2, T2_ix, T4_ix]
  split_ifs <;> exact head_eq y t c _ _ (by simp <;> omega) (by simp <;> omega)

/-- The output projection's block. -/
theorem out2_2_T (y : Fin 8 → ℕ → Fin 64 → ℝ) (w : Fin 1024 → Fin 512 → ℝ) :
    out2_2 (F := Ideal) (T4 (φ := .f32) fun (_ : Fin 1) h (t : Fin 1024) d => y h t d) (T2 (φ := .f32) w)
      = T3 (φ := .f32) fun (_ : Fin 1) (t : Fin 1024) i => outProj y w t i := by
  unfold out2_2
  rw [View.canon_cons_unit_lit _ _ _ (by decide), View.ld_unit_lit _ _ (by decide)]
  refine ext3 fun a t i => ?_
  pointwise [k2_pay1, k2_pay3, k2_pay4, k2_pay5, k2_pay6, k2pay2_T, T2_ix, T3_ix, T4_ix]
  simp only [sub_coe, sub_self, zero_mul, mul_zero, mul_coe, coe_sum, add_coe, Finset.sum_const_zero, zero_add, outProj]

end Cert.Proof
end
-- ==== Proof.KArr2.lean ====
module

public import proofs.«01_k».proof.Proof.Args
public import proofs.«01_k».proof.Proof.K2

@[expose] public section

set_option maxRecDepth 16384

noncomputable section

namespace Cert.Proof

open Idealize.ShloMosaic Cert.KernelIdeal Cert.KernelIdeal.Gen
open Idealize.ShloMosaic.TcCoe
open scoped BigOperators

variable {V : (c : Dev nD) → (b : Ref sig .tc) → Buf (Elt Ideal) ((c : Thread nD τ).loc b)} {a : Args} (c : Dev nD)

/-- What the third kernel finds in its operands. -/
structure In2 (V : (c : Dev nD) → (b : Ref sig .tc) → Buf (Elt Ideal) ((c : Thread nD τ).loc b)) (a : Args) (c : Dev nD) : Prop where
  h0 : V c main_v43 = T4 (φ := .f32) fun b h (t : Fin 1024) d => a.head b h t d
  h1 : V c main_arg4 = T2 (φ := .f32) a.wo

/-- The sequence of a grid point of the third kernel. -/
def bOf2 (t : Fin cfg2.N) : Fin 2 := ⟨(grid2.coords t 0).val, (by decide +kernel : ∀ t : Fin cfg2.N, (grid2.coords t 0).val < 2) t⟩
theorem idx2_0 : ∀ t : Fin cfg2.N, (cfg2.win 0).index t = ![(grid2.coords t 0).val, 0, 0, 0] := by decide +kernel
theorem idx2_1 : ∀ t : Fin cfg2.N, (cfg2.win 1).index t = ![0, 0] := by decide +kernel
theorem idx2_2 : ∀ t : Fin cfg2.N, (cfg2.win 2).index t = ![(grid2.coords t 0).val, 0, 0] := by decide +kernel

theorem iblk2_0 (t : Fin cfg2.N) (h : In2 V a c) :
    iblk2 V c 0 t = T4 (φ := .f32) fun (_ : Fin 1) h (s : Fin 1024) d => a.head (bOf2 t) h s d := by
  refine ext4 fun u v s d => ?_
  have e : iblk2 V c 0 t (ix4 u v s d) = V c main_v43 (ix4 (bOf2 t) v s d) := by
    blk_ext [iblk2, idx2_0 t, bOf2]
  rw [e, h.h0]; rfl

theorem iblk2_1 (t : Fin cfg2.N) (h : In2 V a c) : iblk2 V c 1 t = T2 (φ := .f32) a.wo := by
  refine ext2 fun u s => ?_
  have e : iblk2 V c 1 t (ix2 u s) = V c main_arg4 (ix2 u s) := by
    blk_ext [iblk2, idx2_1 t]
  rw [e, h.h1]

/-- What the third kernel leaves: the layer's output. -/
theorem arr2_2 (h : In2 V a c) : (dat2 V c).arrAt 2 cfg2.N = T3 (φ := .f32) fun b (t : Fin 1024) i => a.out b t i := by
  refine (dat2 V c).arrAt_eq_of_covers 2 _ (by decide +kernel) fun t hf y => ?_
  blk_simp
  rw [after2_2, iblk2_0 c t h, iblk2_1 c t h, out2_2_T]
  have e : (win2_2.blk t).view.emb y = ix3 (bOf2 t) (y 1) (y 2) := by
    blk_ext [idx2_2 t, bOf2]
  rw [e]
  rfl

end Cert.Proof
end
-- ==== Proof.KRun.lean ====
module

public import proofs.«01_k».proof.Proof.KHost
public import proofs.«01_k».proof.Proof.KArr0
public import proofs.«01_k».proof.Proof.KArr1
public import proofs.«01_k».proof.Proof.KArr2

@[expose] public section

set_option maxRecDepth 16384

noncomputable section

namespace Cert.Proof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unfolding plain definitions in a metavariable's type
set_option backward.isDefEq.respectTransparency.types false in
/-- Every run ends with each buffer outside the regions at what the last boundary's contents say. -/
theorem kernel_buffers : θ_run defs (onTc (τ := τ) (main (F := Ideal))) ⟨m, fun _ => 0, ρ⟩ (fun r =>
    ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

variable {m ρ}

/-- The first kernel's operands. -/
theorem in0 {a : Args} {c : Dev nD} (h : KHolds (W0 m ρ c) a) : In0 (V1 m ρ) a c where
  h0 := (W1_of m ρ c main_arg0 (by decide)).trans h.h0
  h1 := (W1_of m ρ c main_arg1 (by decide)).trans h.h1
  h2 := (W1_of m ρ c main_arg2 (by decide)).trans h.h2
  h3 := (W1_of m ρ c main_arg3 (by decide)).trans h.h3
  h4 := host_v1 h
  h5 := host_v3 h
  h6 := host_v5 h
  h7 := host_v9 h
  h8 := host_v20 h
  h9 := host_v31 h
  h10 := host_v32 h

/-- The second kernel's operands. -/
theorem in1 {a : Args} {c : Dev nD} (h : KHolds (W0 m ρ c) a) : In1 (V3 m ρ) a c where
  h0 := host_v35 a.qf ((W2_arr m ρ c 11).trans (arr0_11 c (in0 h)))
  h1 := host_v37 a.kf ((W2_arr m ρ c 12).trans (arr0_12 c (in0 h)))
  h2 := host_v39 a.vf ((W2_arr m ρ c 13).trans (arr0_13 c (in0 h)))
  h3 := host_v41 (fun b t i => gateLin (a.x b) a.gateM a.gateV t i) ((W2_arr m ρ c 14).trans (arr0_14 c (in0 h)))
  h4 := host_v42 a.ln (((W2_args m ρ c main_arg20 (by decide)).trans (W0_args m ρ c main_arg20 (by decide)).symm).trans h.h20)

/-- The third kernel's operands. -/
theorem in2 {a : Args} {c : Dev nD} (h : KHolds (W0 m ρ c) a) : In2 (V4 m ρ) a c where
  h0 := (W4_arr m ρ c 5).trans (arr1_5 c (in1 h))
  h1 := ((W4_args m ρ c main_arg4 (by decide)).trans (W0_args m ρ c main_arg4 (by decide)).symm).trans h.h4

/-- What the kernel program computes from arguments that are real numbers. -/
theorem kernel_out {a : Args} {c : Dev nD} (h : KHolds (W0 m ρ c) a) :
    W5 m ρ c (Proc.devRef .tc main_v44) = T3 (φ := .f32) fun b (t : Fin 1024) i => a.out b t i :=
  (W5_arr m ρ c 2).trans (arr2_2 c (in2 h))

end Cert.Proof
end
-- ==== Proof.KEnds.lean ====
module

public import proofs.«01_k».proof.Proof.Pre
public import proofs.«01_k».proof.Proof.KRun

/-! The kernel's run: from a memory of real arguments it ends with the layer's output, its arguments unchanged. -/

@[expose] public section

noncomputable section

namespace Cert.Proof

open Cert.KernelIdeal Cert.KernelIdeal.Gen
open Idealize.ShloMosaic Idealize.ShloMosaic.TcCoe Idealize.SL.Sem

/-- The kernel ends with the layer's output and unchanged arguments. -/
theorem kernel_ends (m : (ℓ : Loc nD τ sig) → Buf (Elt Ideal) ℓ) (g : Dev nD → PrngReg) (a : Dev nD → Args)
    (K : ∀ c, KHolds (W0 m g c) (a c)) :
    θ_run (defs (F := Ideal)) (onTc (τ := τ) (main (F := Ideal))) ⟨m, fun _ => 0, g⟩ (fun r => ∀ c : Dev nD,
      r.2.mem ((c.tc : Thread nD τ).loc main_v44) = (T3 (φ := .f32) fun b (t : Fin 1024) i => (a c).out b t i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨(h c _ (mem_uc main_v44 (by decide))).trans (kernel_out (K c)),
    (h c _ (mem_uc main_arg0 (by decide))).trans (W5_main_arg0 m g c),
    (h c _ (mem_uc main_arg1 (by decide))).trans (W5_main_arg1 m g c),
    (h c _ (mem_uc main_arg2 (by decide))).trans (W5_main_arg2 m g c),
    (h c _ (mem_uc main_arg3 (by decide))).trans (W5_main_arg3 m g c),
    (h c _ (mem_uc main_arg4 (by decide))).trans (W5_main_arg4 m g c),
    (h c _ (mem_uc main_arg5 (by decide))).trans (W5_main_arg5 m g c),
    (h c _ (mem_uc main_arg6 (by decide))).trans (W5_main_arg6 m g c),
    (h c _ (mem_uc main_arg7 (by decide))).trans (W5_main_arg7 m g c),
    (h c _ (mem_uc main_arg8 (by decide))).trans (W5_main_arg8 m g c),
    (h c _ (mem_uc main_arg9 (by decide))).trans (W5_main_arg9 m g c),
    (h c _ (mem_uc main_arg10 (by decide))).trans (W5_main_arg10 m g c),
    (h c _ (mem_uc main_arg11 (by decide))).trans (W5_main_arg11 m g c),
    (h c _ (mem_uc main_arg12 (by decide))).trans (W5_main_arg12 m g c),
    (h c _ (mem_uc main_arg13 (by decide))).trans (W5_main_arg13 m g c),
    (h c _ (mem_uc main_arg14 (by decide))).trans (W5_main_arg14 m g c),
    (h c _ (mem_uc main_arg15 (by decide))).trans (W5_main_arg15 m g c),
    (h c _ (mem_uc main_arg16 (by decide))).trans (W5_main_arg16 m g c),
    (h c _ (mem_uc main_arg17 (by decide))).trans (W5_main_arg17 m g c),
    (h c _ (mem_uc main_arg18 (by decide))).trans (W5_main_arg18 m g c),
    (h c _ (mem_uc main_arg19 (by decide))).trans (W5_main_arg19 m g c),
    (h c _ (mem_uc main_arg20 (by decide))).trans (W5_main_arg20 m g c),
    (h c _ (mem_uc main_arg21 (by decide))).trans (W5_main_arg21 m g c)⟩)
    (kernel_buffers m g)

end Cert.Proof
end
-- ==== Proof.Tok.lean ====
module

public import proofs.«01_k».proof.Proof.Maths

/-!
The rule by tokens: one token's gradient over the window, the momentum and the memory after it,
and the proof that the closed form over a chunk of 64 tokens says the same.
The matrices here have the value's coordinate first; the chunk form has the key's first.
-/

@[expose] public section

noncomputable section

namespace Cert.Proof
open scoped BigOperators

/-! ## The orthogonalisation, on the row side -/

/-- The matrix times its transpose. -/
def rgram (x : Mat) : Mat := fun d e => ∑ k, x d k * x e k

/-- One polynomial step of the orthogonalisation, on the row side. -/
def rns (a b c : ℝ) (x : Mat) : Mat := fun d e =>
  a * x d e + ∑ k, (b * rgram x d k + c * mm (rgram x) (rgram x) d k) * x k e

/-- The orthogonalised state, on the row side. -/
def rpe (x : Mat) : Mat :=
  rns (lit 0x40791116#32) (lit 0xC0317061#32) (lit 0x3F018D77#32)
    (rns (lit 0x40815FAF#32) (lit 0xC033C54E#32) (lit 0x3F00012B#32)
      (rns (lit 0x4102813F#32) (lit 0xC1B3DDC9#32) (lit 0x417E0F71#32) (nrm x)))

/-- The transpose. -/
def tr (x : Mat) : Mat := fun e d => x d e

theorem gram_tr (x : Mat) : gram (tr x) = rgram x := rfl

theorem rgram_comm (x : Mat) (j k : Fin 64) : rgram x j k = rgram x k j :=
  Finset.sum_congr rfl fun _ _ => mul_comm _ _

theorem mm_rgram_comm (x : Mat) (j k : Fin 64) : mm (rgram x) (rgram x) j k = mm (rgram x) (rgram x) k j := by
  unfold mm
  refine Finset.sum_congr rfl fun l _ => ?_
  rw [rgram_comm x j l, rgram_comm x l k, mul_comm]

/-- A step on the transpose is the transpose of the step. -/
theorem nsStep_tr (a b c : ℝ) (x : Mat) : nsStep a b c (tr x) = tr (rns a b c x) := by
  funext e d
  unfold nsStep nsWith
  rw [gram_tr]
  change a * x d e + _ = a * x d e + _
  congr 1
  refine Finset.sum_congr rfl fun k _ => ?_
  change x k e * _ = _ * x k e
  rw [rgram_comm x k d, mm_rgram_comm x k d, mul_comm]

theorem nrm_tr (x : Mat) : nrm (tr x) = tr (nrm x) := by
  have h : nrmDen (tr x) = nrmDen x := by
    unfold nrmDen
    rw [Finset.sum_comm]; rfl
  funext e d
  unfold nrm
  rw [h]; rfl

/-- The orthogonalisation of the transpose is the transpose of the orthogonalisation. -/
theorem pe_tr (x : Mat) : pe (tr x) = tr (rpe x) := by
  unfold pe rpe ns1 ns2 ns3
  rw [nrm_tr, nsStep_tr, nsStep_tr, nsStep_tr]

/-! ## The scan -/

theorem cumz_zero (z : Fin 64 → ℝ) : cumz z 0 = lsg (z 0) := by
  unfold cumz tril
  rw [Finset.sum_eq_single 0]
  · simp
  · intro b _ hb
    have : ¬ b ≤ 0 := fun h => hb (Fin.le_zero_iff.mp h)
    simp [this]
  · simp

theorem cumz_succ (z : Fin 64 → ℝ) (r r' : Fin 64) (h : r'.val = r.val + 1) :
    cumz z r' = cumz z r + lsg (z r') := by
  unfold cumz
  have e : ∀ j, tril r' j * lsg (z j) = tril r j * lsg (z j) + if j = r' then lsg (z j) else 0 := by
    intro j
    unfold tril
    simp only [Fin.le_def, Fin.ext_iff]
    split_ifs <;> first | omega | simp
  simp only [e, Finset.sum_add_distrib, Finset.sum_ite_eq', Finset.mem_univ, if_true]

theorem scanW_succ (z : Fin 64 → ℝ) (r r' s : Fin 64) (h : r'.val = r.val + 1) :
    scanW z r' s = sg (z r') * scanW z r s + if s = r' then 1 else 0 := by
  unfold scanW
  rw [cumz_succ z r r' h, ← exp_lsg]
  by_cases h1 : s.val ≤ r.val
  · have a1 : s ≤ r := h1
    have a2 : s ≤ r' := by rw [Fin.le_def]; omega
    have a3 : ¬ s = r' := by rw [Fin.ext_iff]; omega
    rw [if_pos a1, if_pos a2, if_neg a3, add_zero, ← Real.exp_add]
    congr 1; ring
  · have a1 : ¬ s ≤ r := h1
    rw [if_neg a1, mul_zero, zero_add]
    by_cases h2 : s = r'
    · subst h2
      rw [if_pos le_rfl, if_pos rfl, cumz_succ z r s h, sub_self, Real.exp_zero]
    · have a2 : ¬ s ≤ r' := by
        rw [Fin.le_def]; rw [Fin.ext_iff] at h2; omega
      rw [if_neg a2, if_neg h2]

theorem scanW_zero (z : Fin 64 → ℝ) (s : Fin 64) : scanW z 0 s = if s = 0 then 1 else 0 := by
  unfold scanW
  by_cases h : s = 0
  · subst h; simp
  · have : ¬ s ≤ 0 := fun h' => h (Fin.le_zero_iff.mp h')
    rw [if_neg this, if_neg h]

/-- The scanned value after the chunk's first row. -/
theorem scan_zero (z x : Fin 64 → ℝ) (h0 : ℝ) :
    (∑ s, scanW z 0 s * x s) + Real.exp (cumz z 0) * h0 = sg (z 0) * h0 + x 0 := by
  simp only [scanW_zero, ite_mul, one_mul, zero_mul, Finset.sum_ite_eq', Finset.mem_univ, if_true]
  rw [cumz_zero, exp_lsg]; ring

/-- The scanned value after one more row. -/
theorem scan_succ (z x : Fin 64 → ℝ) (h0 : ℝ) (r r' : Fin 64) (h : r'.val = r.val + 1) :
    (∑ s, scanW z r' s * x s) + Real.exp (cumz z r') * h0
      = sg (z r') * ((∑ s, scanW z r s * x s) + Real.exp (cumz z r) * h0) + x r' := by
  simp only [scanW_succ z r r' _ h, add_mul, ite_mul, one_mul, zero_mul, Finset.sum_add_distrib,
    Finset.sum_ite_eq', Finset.mem_univ, if_true, mul_assoc, ← Finset.mul_sum]
  rw [cumz_succ z r r' h, Real.exp_add, exp_lsg]; ring

/-! ## The window -/

/-- A sum over the sixteen rows that end at a row, by row and by place in the window. -/
theorem window_sum (s : Fin 64) (f : Fin 64 → ℝ) (f' : ℕ → ℝ) (hf : ∀ u : Fin 64, f u = f' u.val) :
    (∑ u, band s u * f u) = ∑ j : Fin 16, if 15 ≤ j.val + s.val then f' (j.val + s.val - 15) else 0 := by
  have e : ∀ u : Fin 64, band s u * f u
      = if u.val ≤ s.val ∧ s.val < u.val + 16 then f' u.val else 0 := by
    intro u
    unfold band
    rw [hf]
    simp only [Fin.le_def, ite_mul, one_mul, zero_mul]
  rw [Finset.sum_congr rfl fun u _ => e u, ← Finset.sum_filter, ← Finset.sum_filter]
  refine Finset.sum_bij' (fun u _ => (⟨(u.val + 15 - s.val) % 16, by omega⟩ : Fin 16))
    (fun j _ => (⟨(j.val + s.val - 15) % 64, by omega⟩ : Fin 64)) ?_ ?_ ?_ ?_ ?_
  · intro u hu
    simp only [Finset.mem_filter, Finset.mem_univ, true_and] at hu ⊢
    omega
  · intro j hj
    simp only [Finset.mem_filter, Finset.mem_univ, true_and] at hj ⊢
    omega
  · intro u hu
    simp only [Finset.mem_filter, Finset.mem_univ, true_and] at hu
    rw [Fin.ext_iff]
    simp only
    omega
  · intro j hj
    simp only [Finset.mem_filter, Finset.mem_univ, true_and] at hj
    rw [Fin.ext_iff]
    simp only
    omega
  · intro u hu
    simp only [Finset.mem_filter, Finset.mem_univ, true_and] at hu
    congr 1
    simp only
    omega

/-! ## The rule by tokens -/

/-- A sequence of rows with fifteen rows of zeros in front. -/
def pad15 (f : ℕ → Fin 64 → ℝ) (n : ℕ) (d : Fin 64) : ℝ := if n < 15 then 0 else f (n - 15) d

/-- The forgetting weights with fifteen zeros in front. -/
def gam15 (g : ℕ → Fin 8 → ℝ) (n : ℕ) : ℝ := if n < 15 then 0 else sg (g (n - 15) 3)

/-- The gradient of the window that ends at token `t`, against the memory `m`. -/
def winG (g : ℕ → Fin 8 → ℝ) (k v : ℕ → Fin 64 → ℝ) (m : Mat) (t : ℕ) : Mat := fun d e =>
  ∑ j : Fin 16, (2 * (if 15 ≤ j.val + t % 64 then gam15 g (t + j.val) else 0))
    * ((∑ i, pad15 k (t + j.val) i * m d i) - pad15 v (t + j.val) d) * pad15 k (t + j.val) e

/-- The memory at the chunk's start, the memory and the momentum after `n` tokens. -/
def tok (g : ℕ → Fin 8 → ℝ) (k v : ℕ → Fin 64 → ℝ) : ℕ → Mat × Mat × Mat
  | 0 => (fun _ _ => 0, fun _ _ => 0, fun _ _ => 0)
  | t + 1 =>
    (if t % 64 = 0 then (tok g k v t).2.1 else (tok g k v t).1,
      fun d e => sg (g t 0) * (tok g k v t).2.1 d e
        + rpe (fun d e => sg (g t 2) * (tok g k v t).2.2 d e - lit 0x3DCCCCCD#32 * sg (g t 1)
          * winG g k v (if t % 64 = 0 then (tok g k v t).2.1 else (tok g k v t).1) t d e) d e,
      fun d e => sg (g t 2) * (tok g k v t).2.2 d e - lit 0x3DCCCCCD#32 * sg (g t 1)
          * winG g k v (if t % 64 = 0 then (tok g k v t).2.1 else (tok g k v t).1) t d e)

/-- The memory's answer to token `t`'s query. -/
def tokY (g : ℕ → Fin 8 → ℝ) (k v q : ℕ → Fin 64 → ℝ) (t : ℕ) (d : Fin 64) : ℝ :=
  ∑ e, q t e * (tok g k v (t + 1)).2.1 d e

/-- A chunk row's weighted sum of outer products is the window's gradient, scaled. -/
theorem gradW_winG (g : ℕ → Fin 8 → ℝ) (k v : ℕ → Fin 64 → ℝ) (m : Mat) (c : ℕ) (s e d : Fin 64) :
    (∑ u, gradW (rows g c) s u * outerE (tr m) (rows k c) (rows v c) u e d)
      = -(lit 0x3DCCCCCD#32 * sg (g (64 * c + s.val) 1) * winG g k v m (64 * c + s.val) d e) := by
  have h1 : ∀ u, gradW (rows g c) s u * outerE (tr m) (rows k c) (rows v c) u e d
      = -(lit 0x3DCCCCCD#32 * sg (g (64 * c + s.val) 1)) * (band s u
        * (2 * sg (g (64 * c + u.val) 3) * ((∑ i, k (64 * c + u.val) i * m d i) - v (64 * c + u.val) d)
          * k (64 * c + u.val) e)) := by
    intro u
    unfold gradW outerE tr rows
    ring
  rw [Finset.sum_congr rfl fun u _ => h1 u, ← Finset.mul_sum,
    window_sum s _ (fun u => 2 * sg (g (64 * c + u) 3)
      * ((∑ i, k (64 * c + u) i * m d i) - v (64 * c + u) d) * k (64 * c + u) e) (fun _ => rfl), neg_mul]
  congr 2
  unfold winG
  refine Finset.sum_congr rfl fun j _ => ?_
  have hm : (64 * c + s.val) % 64 = s.val := by omega
  rw [hm]
  by_cases h : 15 ≤ j.val + s.val
  · have hn : ¬ 64 * c + s.val + j.val < 15 := by omega
    have he : 64 * c + s.val + j.val - 15 = 64 * c + (j.val + s.val - 15) := by omega
    simp only [if_pos h, gam15, pad15, if_neg hn, he]
  · simp only [if_neg h, mul_zero, zero_mul]

/-- The momentum's closed form, the sums exchanged. -/
theorem sAll_eq (g : ℕ → Fin 8 → ℝ) (k v : ℕ → Fin 64 → ℝ) (m st : Mat) (c : ℕ) (r e d : Fin 64) :
    sAll (rows g c) (tr m) st (rows k c) (rows v c) r e d
      = (∑ s, scanW (fun t => rows g c t 2) r s
          * -(lit 0x3DCCCCCD#32 * sg (g (64 * c + s.val) 1) * winG g k v m (64 * c + s.val) d e))
        + Real.exp (cumz (fun t => rows g c t 2) r) * st e d := by
  unfold sAll
  congr 1
  simp only [← gradW_winG, Finset.mul_sum, Finset.sum_mul]
  rw [Finset.sum_comm]
  simp only [mul_assoc]

/-- Within a chunk: if the states agree at its start, they agree after every row. -/
theorem tok_rows (g : ℕ → Fin 8 → ℝ) (k v : ℕ → Fin 64 → ℝ) (c : ℕ)
    (hm : tr (tok g k v (64 * c)).2.1 = (chunkSt g k v c).1)
    (hs : tr (tok g k v (64 * c)).2.2 = (chunkSt g k v c).2) (n : ℕ) :
    ∀ hn : n < 64, (tok g k v (64 * c + n + 1)).1 = (tok g k v (64 * c)).2.1
      ∧ tr (tok g k v (64 * c + n + 1)).2.1 = chunkM g k v c ⟨n, hn⟩
      ∧ tr (tok g k v (64 * c + n + 1)).2.2
        = sAll (rows g c) (chunkSt g k v c).1 (chunkSt g k v c).2 (rows k c) (rows v c) ⟨n, hn⟩ := by
  induction n with
  | zero =>
    intro hn
    have h0 : 64 * c % 64 = 0 := by omega
    rw [Nat.add_zero]
    have hS : tr (tok g k v (64 * c + 1)).2.2
        = sAll (rows g c) (chunkSt g k v c).1 (chunkSt g k v c).2 (rows k c) (rows v c) ⟨0, hn⟩ := by
      funext e d
      rw [← hm, ← hs, sAll_eq]
      refine Eq.trans ?_ (scan_zero _ (fun s => -(lit 0x3DCCCCCD#32 * sg (g (64 * c + s.val) 1)
        * winG g k v (tok g k v (64 * c)).2.1 (64 * c + s.val) d e)) _).symm
      simp only [tr]
      rw [tok]
      simp only [if_pos h0]
      rw [sub_eq_add_neg]; rfl
    refine ⟨by rw [tok]; simp only [if_pos h0], ?_, hS⟩
    funext e d
    unfold chunkM mAll
    refine Eq.trans ?_ (scan_zero _ (fun s => pe (sAll (rows g c) (chunkSt g k v c).1 (chunkSt g k v c).2
      (rows k c) (rows v c) s) e d) _).symm
    have h1 : sAll (rows g c) (chunkSt g k v c).1 (chunkSt g k v c).2 (rows k c) (rows v c) 0
        = tr (tok g k v (64 * c + 1)).2.2 := hS.symm
    rw [h1, pe_tr, ← hm]
    rfl
  | succ n ih =>
    intro hn
    obtain ⟨i1, i2, i3⟩ := ih (by omega)
    have h0 : ¬ (64 * c + (n + 1)) % 64 = 0 := by omega
    have hS : tr (tok g k v (64 * c + (n + 1) + 1)).2.2
        = sAll (rows g c) (chunkSt g k v c).1 (chunkSt g k v c).2 (rows k c) (rows v c) ⟨n + 1, hn⟩ := by
      funext e d
      have i3' := congrFun (congrFun i3 e) d
      rw [← hm, ← hs, sAll_eq] at i3' ⊢
      refine Eq.trans ?_ (scan_succ _ (fun s => -(lit 0x3DCCCCCD#32 * sg (g (64 * c + s.val) 1)
        * winG g k v (tok g k v (64 * c)).2.1 (64 * c + s.val) d e)) _ ⟨n, by omega⟩ ⟨n + 1, hn⟩ rfl).symm
      rw [← i3', ← i1]
      simp only [tr]
      rw [tok]
      simp only [if_neg h0]
      rw [sub_eq_add_neg]; rfl
    refine ⟨by rw [tok]; simp only [if_neg h0]; exact i1, ?_, hS⟩
    funext e d
    have i2' := congrFun (congrFun i2 e) d
    unfold chunkM mAll at i2' ⊢
    refine Eq.trans ?_ (scan_succ _ (fun s => pe (sAll (rows g c) (chunkSt g k v c).1 (chunkSt g k v c).2
      (rows k c) (rows v c) s) e d) _ ⟨n, by omega⟩ ⟨n + 1, hn⟩ rfl).symm
    rw [← hS, pe_tr, ← i2']
    rfl

/-- At the start of every chunk the states agree. -/
theorem tok_chunk (g : ℕ → Fin 8 → ℝ) (k v : ℕ → Fin 64 → ℝ) (c : ℕ) :
    tr (tok g k v (64 * c)).2.1 = (chunkSt g k v c).1 ∧ tr (tok g k v (64 * c)).2.2 = (chunkSt g k v c).2 := by
  induction c with
  | zero => exact ⟨rfl, rfl⟩
  | succ c ih =>
    obtain ⟨_, h2, h3⟩ := tok_rows g k v c ih.1 ih.2 63 (by norm_num)
    have e : 64 * (c + 1) = 64 * c + 63 + 1 := by omega
    rw [e]
    exact ⟨h2, h3⟩

/-- The chunk form's rows are the token rule's answers, normalised, scaled and gated. -/
theorem outY_tok (l : Fin 64 → ℝ) (g : ℕ → Fin 8 → ℝ) (k v q : ℕ → Fin 64 → ℝ) (t : ℕ) (d : Fin 64) :
    outY l g k v q t d = yRow l (tokY g k v q t) d * sg (g t 4) := by
  have ht : 64 * (t / 64) + t % 64 = t := by omega
  obtain ⟨h1, h2⟩ := tok_chunk g k v (t / 64)
  obtain ⟨_, h3, _⟩ := tok_rows g k v (t / 64) h1 h2 (t % 64) (Nat.mod_lt _ (by norm_num))
  unfold outY chunkY
  rw [← h3]
  have e : (fun d => ∑ e, tr (tok g k v (64 * (t / 64) + t % 64 + 1)).2.1 e d
      * rows q (t / 64) ⟨t % 64, Nat.mod_lt _ (by norm_num)⟩ e) = tokY g k v q t := by
    funext d
    unfold tokY tr rows
    simp only [ht]
    exact Finset.sum_congr rfl fun _ _ => mul_comm _ _
  rw [e]
  unfold rows
  simp only [ht]

end Cert.Proof
end
-- ==== Proof.RArg.lean ====
module

public import proofs.«01_k».proof.Proof.Args
public import proofs.«01_k».proof.Proof.Tok
public import proofs.«01_k».proof.Proof.Gen.ReferenceIdeal.Step
public import Idealize.ShloMosaic.Lib.StableHlo.ReadAt

/-! What the reference computes before its loop, on real arguments. -/

@[expose] public section

noncomputable section

namespace Cert.Proof

open Idealize.ShloMosaic Cert.ReferenceIdeal Cert.ReferenceIdeal.Gen Cert.ReferenceIdeal.Step
open scoped BigOperators

/-- A function of the reference's arguments, all but the ones it reads after the loop, at the arguments `a`. -/
def onArgs {β : Type} (a : Args) (f : (⟨S2x1024x1024, .f32⟩ : BufTy).Contents (Elt Ideal) → (⟨S512x1024, .f32⟩ : BufTy).Contents (Elt Ideal) → (⟨S512x1024, .f32⟩ : BufTy).Contents (Elt Ideal) → (⟨S512x1024, .f32⟩ : BufTy).Contents (Elt Ideal) → (⟨S512x1x4, .f32⟩ : BufTy).Contents (Elt Ideal) → (⟨S512, .f32⟩ : BufTy).Contents (Elt Ideal) → (⟨S512x1x4, .f32⟩ : BufTy).Contents (Elt Ideal) → (⟨S512, .f32⟩ : BufTy).Contents (Elt Ideal) → (⟨S512x1x4, .f32⟩ : BufTy).Contents (Elt Ideal) → (⟨S512, .f32⟩ : BufTy).Contents (Elt Ideal) → (⟨S8x1024, .f32⟩ : BufTy).Contents (Elt Ideal) → (⟨S8, .f32⟩ : BufTy).Contents (Elt Ideal) → (⟨S8x1024, .f32⟩ : BufTy).Contents (Elt Ideal) → (⟨S8, .f32⟩ : BufTy).Contents (Elt Ideal) → (⟨S8x1024, .f32⟩ : BufTy).Contents (Elt Ideal) → (⟨S8, .f32⟩ : BufTy).Contents (Elt Ideal) → (⟨S8x1024, .f32⟩ : BufTy).Contents (Elt Ideal) → (⟨S8, .f32⟩ : BufTy).Contents (Elt Ideal) → (⟨S2, .f32⟩ : BufTy).Contents (Elt Ideal) → β) : β :=
  f (T3 (φ := .f32) fun b (t : Fin 1024) i => a.x b t i)
    (T2 (φ := .f32) a.wq)
    (T2 (φ := .f32) a.wk)
    (T2 (φ := .f32) a.wv)
    (T3 (φ := .f32) fun i (_ : Fin 1) j => a.cq i j)
    (T1 (φ := .f32) a.bq)
    (T3 (φ := .f32) fun i (_ : Fin 1) j => a.ck i j)
    (T1 (φ := .f32) a.bk)
    (T3 (φ := .f32) fun i (_ : Fin 1) j => a.cv i j)
    (T1 (φ := .f32) a.bv)
    (T2 (φ := .f32) a.aw)
    (T1 (φ := .f32) a.ab)
    (T2 (φ := .f32) a.ew)
    (T1 (φ := .f32) a.eb)
    (T2 (φ := .f32) a.tw)
    (T1 (φ := .f32) a.tb)
    (T2 (φ := .f32) a.gw)
    (T1 (φ := .f32) a.gb)
    (T1 (φ := .f32) a.pc)

variable (a : Args)

/-- The integer zero as a float. -/
theorem sitofp_zero : @Eq EReal (FloatOps.sitofp (F := Ideal) FTy.f32 0#32) ((0 : ℝ) : EReal) := by
  show (((0#32 : BitVec 32).toInt : ℝ) : EReal) = _
  simp

theorem sg_coe' (x : ℝ) : Ideal.div ((1 : ℝ) : EReal) ((1 + Real.exp (-x) : ℝ) : EReal) = ((sg x : ℝ) : EReal) := sg_coe x

theorem sub_two (t : ℕ) : 1 + t - 3 = t - 2 := by omega
theorem sub_one (t : ℕ) : 2 + t - 3 = t - 1 := by omega

theorem gf_0 (b : Fin 2) (h : Fin 8) (t : ℕ) : a.gf b h t 0 = (∑ j, a.x b t j * a.aw h j) + a.ab h := by
  have e1 : (h.val * 8 + 0) / 8 = h.val := by omega
  have e2 : (h.val * 8 + 0) % 8 = 0 := by omega
  have e3 : ((0 : Fin 8) : ℕ) = 0 := rfl
  simp only [Args.gf, gateLin, Args.gateM, Args.gateV, e3, e1, e2, Args.gateW, Args.gateB]
  simp

theorem gf_1 (b : Fin 2) (h : Fin 8) (t : ℕ) : a.gf b h t 1 = (∑ j, a.x b t j * a.ew h j) + a.eb h := by
  have e1 : (h.val * 8 + 1) / 8 = h.val := by omega
  have e2 : (h.val * 8 + 1) % 8 = 1 := by omega
  have e3 : ((1 : Fin 8) : ℕ) = 1 := rfl
  simp only [Args.gf, gateLin, Args.gateM, Args.gateV, e3, e1, e2, Args.gateW, Args.gateB]
  simp

theorem gf_2 (b : Fin 2) (h : Fin 8) (t : ℕ) : a.gf b h t 2 = (∑ j, a.x b t j * a.tw h j) + a.tb h := by
  have e1 : (h.val * 8 + 2) / 8 = h.val := by omega
  have e2 : (h.val * 8 + 2) % 8 = 2 := by omega
  have e3 : ((2 : Fin 8) : ℕ) = 2 := rfl
  simp only [Args.gf, gateLin, Args.gateM, Args.gateV, e3, e1, e2, Args.gateW, Args.gateB]
  simp

theorem gf_3 (b : Fin 2) (h : Fin 8) (t : ℕ) : a.gf b h t 3 = (∑ j, a.x b t j * a.gw h j) + a.gb h := by
  have e1 : (h.val * 8 + 3) / 8 = h.val := by omega
  have e2 : (h.val * 8 + 3) % 8 = 3 := by omega
  have e3 : ((3 : Fin 8) : ℕ) = 3 := rfl
  simp only [Args.gf, gateLin, Args.gateM, Args.gateV, e3, e1, e2, Args.gateW, Args.gateB]
  simp

theorem gf_4 (b : Fin 2) (h : Fin 8) (t : ℕ) : a.gf b h t 4 = (∑ j, a.x b t j * a.rw h j) := by
  have e1 : (h.val * 8 + 4) / 8 = h.val := by omega
  have e2 : (h.val * 8 + 4) % 8 = 4 := by omega
  have e3 : ((4 : Fin 8) : ℕ) = 4 := rfl
  simp only [Args.gf, gateLin, Args.gateM, Args.gateV, e3, e1, e2, Args.gateW, Args.gateB]
  simp

/-- The forgetting gate. -/
theorem ref_alpha : onArgs a A_main_v122 = T3 (φ := .f32) fun b h (t : Fin 1024) => sg (a.gf b h t 0) := by
  refine ext3 fun b h t => ?_
  pointwise [onArgs, A_main_v111, A_main_v112, A_main_v113, A_main_v114, A_main_v115, A_main_v116, A_main_v117, A_main_v119, A_main_v121, A_main_v122, K_main_cst_4, K_main_cst_5, K_main_v118, K_main_v120, T3_ix, T2_ix, T1_ix]
  simp only [mul_coe, coe_sum, add_coe, neg_coe, exp_coe, one_coe, sg_coe', gf_0]

/-- The step size, times the constant in front. -/
theorem ref_eta : onArgs a A_main_v136 = T3 (φ := .f32) fun b h (t : Fin 1024) => lit 0x3DCCCCCD#32 * sg (a.gf b h t 1) := by
  refine ext3 fun b h t => ?_
  pointwise [onArgs, A_main_v123, A_main_v124, A_main_v125, A_main_v126, A_main_v127, A_main_v128, A_main_v129, A_main_v131, A_main_v133, A_main_v134, A_main_v136, K_main_cst_6, K_main_cst_7, K_main_cst_8, K_main_v130, K_main_v132, K_main_v135, T3_ix, T2_ix, T1_ix]
  simp only [mul_coe, coe_sum, add_coe, neg_coe, exp_coe, one_coe, sg_coe', bits_tenth, gf_1]

/-- The momentum gate. -/
theorem ref_theta : onArgs a A_main_v148 = T3 (φ := .f32) fun b h (t : Fin 1024) => sg (a.gf b h t 2) := by
  refine ext3 fun b h t => ?_
  pointwise [onArgs, A_main_v137, A_main_v138, A_main_v139, A_main_v140, A_main_v141, A_main_v142, A_main_v143, A_main_v145, A_main_v147, A_main_v148, K_main_cst_10, K_main_cst_9, K_main_v144, K_main_v146, T3_ix, T2_ix, T1_ix]
  simp only [mul_coe, coe_sum, add_coe, neg_coe, exp_coe, one_coe, sg_coe', gf_2]

/-- The weight of a token in the window. -/
theorem ref_gamma : onArgs a A_main_v160 = T3 (φ := .f32) fun b h (t : Fin 1024) => sg (a.gf b h t 3) := by
  refine ext3 fun b h t => ?_
  pointwise [onArgs, A_main_v149, A_main_v150, A_main_v151, A_main_v152, A_main_v153, A_main_v154, A_main_v155, A_main_v157, A_main_v159, A_main_v160, K_main_cst_11, K_main_cst_12, K_main_v156, K_main_v158, T3_ix, T2_ix, T1_ix]
  simp only [mul_coe, coe_sum, add_coe, neg_coe, exp_coe, one_coe, sg_coe', gf_3]

/-- The queries, projected and convolved. -/
theorem ref_q : onArgs a A_main_v36 = T4 (φ := .f32) fun b h (t : Fin 1024) d => a.qf b t (col h d) := by
  refine ext4 fun b h t d => ?_
  pointwise [onArgs, A_main_v0, A_main_v1, A_main_v2, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, A_main_v34, A_main_v35, A_main_v36, K_main_c, K_main_call0_v0, K_main_cst, K_main_v3, T3_ix, T2_ix, T1_ix]
  simp only [dite_eq_ite, sitofp_zero, mul_coe, coe_sum, T4_ix, sub_two, sub_one, Args.qf, conv, later, proj, col]
  split_ifs <;> first | (exfalso; omega) | (simp only [mul_coe, add_coe]; congr 1; ring)

/-- The keys, projected and convolved. -/
theorem ref_c : onArgs a A_main_v73 = T4 (φ := .f32) fun b h (t : Fin 1024) d => a.cf b t (col h d) := by
  refine ext4 fun b h t d => ?_
  pointwise [onArgs, A_main_v37, A_main_v38, A_main_v39, A_main_v41, A_main_v42, A_main_v43, A_main_v44, A_main_v45, A_main_v46, A_main_v47, A_main_v48, A_main_v49, A_main_v50, A_main_v51, A_main_v52, A_main_v53, A_main_v54, A_main_v55, A_main_v56, A_main_v57, A_main_v58, A_main_v59, A_main_v60, A_main_v61, A_main_v62, A_main_v63, A_main_v64, A_main_v65, A_main_v66, A_main_v67, A_main_v68, A_main_v69, A_main_v70, A_main_v71, A_main_v72, A_main_v73, K_main_c_0, K_main_call1_v0, K_main_cst_1, K_main_v40, T3_ix, T2_ix, T1_ix]
  simp only [dite_eq_ite, sitofp_zero, mul_coe, coe_sum, T4_ix, sub_two, sub_one, Args.cf, conv, later, proj, col]
  split_ifs <;> first | (exfalso; omega) | (simp only [mul_coe, add_coe]; congr 1; ring)

/-- The values, projected and convolved. -/
theorem ref_v : onArgs a A_main_v110 = T4 (φ := .f32) fun b h (t : Fin 1024) d => a.vf b t (col h d) := by
  refine ext4 fun b h t d => ?_
  pointwise [onArgs, A_main_v74, A_main_v75, A_main_v76, A_main_v78, A_main_v79, A_main_v80, A_main_v81, A_main_v82, A_main_v83, A_main_v84, A_main_v85, A_main_v86, A_main_v87, A_main_v88, A_main_v89, A_main_v90, A_main_v91, A_main_v92, A_main_v93, A_main_v94, A_main_v95, A_main_v96, A_main_v97, A_main_v98, A_main_v99, A_main_v100, A_main_v101, A_main_v102, A_main_v103, A_main_v104, A_main_v105, A_main_v106, A_main_v107, A_main_v108, A_main_v109, A_main_v110, K_main_c_2, K_main_call2_v0, K_main_cst_3, K_main_v77, T3_ix, T2_ix, T1_ix]
  simp only [dite_eq_ite, sitofp_zero, mul_coe, coe_sum, T4_ix, sub_two, sub_one, Args.vf, conv, later, proj, col]
  split_ifs <;> first | (exfalso; omega) | (simp only [mul_coe, add_coe]; congr 1; ring)

/-- The keys after their feature map. -/
theorem ref_k : onArgs a A_main_v170 = T4 (φ := .f32) fun b h (t : Fin 1024) d => a.kf b t (col h d) := by
  have hc := ref_c a
  unfold onArgs at hc
  refine ext4 fun b h t d => ?_
  pointwise [onArgs, A_main_v161, A_main_v162, A_main_v163, A_main_v164, A_main_v165, A_main_v166, A_main_v167, A_main_v168, A_main_v169, A_main_v170, hc, T3_ix, T2_ix, T1_ix, T4_ix]
  simp only [mul_coe, add_coe, Args.kf]

/-- The keys with fifteen zero rows in front. -/
theorem ref_kpad : onArgs a A_main_v171 = T4 (φ := .f32) fun b h (t : Fin 1039) d => pad15 (fun t d => a.kf b t (col h d)) t d := by
  have hc := ref_k a
  unfold onArgs at hc
  refine ext4 fun b h t d => ?_
  pointwise [onArgs, A_main_v171, K_main_c_13, K_main_call3_v0, hc, T4_ix]
  simp only [dite_eq_ite, sitofp_zero, ite_coe]
  congr 1
  unfold pad15
  split_ifs <;> first | (exfalso; omega) | rfl

/-- The values with fifteen zero rows in front. -/
theorem ref_vpad : onArgs a A_main_v172 = T4 (φ := .f32) fun b h (t : Fin 1039) d => pad15 (fun t d => a.vf b t (col h d)) t d := by
  have hc := ref_v a
  unfold onArgs at hc
  refine ext4 fun b h t d => ?_
  pointwise [onArgs, A_main_v172, K_main_c_14, K_main_call4_v0, hc, T4_ix]
  simp only [dite_eq_ite, sitofp_zero, ite_coe]
  congr 1
  unfold pad15
  split_ifs <;> first | (exfalso; omega) | rfl

/-- The window's weights with fifteen zeros in front. -/
theorem ref_gpad : onArgs a A_main_v173 = T3 (φ := .f32) fun b h (t : Fin 1039) => gam15 (a.gf b h) t := by
  have hc := ref_gamma a
  unfold onArgs at hc
  refine ext3 fun b h t => ?_
  pointwise [onArgs, A_main_v173, K_main_c_15, K_main_call5_v0, hc, T3_ix]
  simp only [dite_eq_ite, sitofp_zero, ite_coe]
  congr 1
  unfold gam15
  split_ifs <;> first | (exfalso; omega) | rfl

end Cert.Proof
end
-- ==== Proof.RStep.lean ====
module

public import proofs.«01_k».proof.Proof.RArg
public import Idealize.ShloMosaic.Lib.DynamicIndex

/-! One trip of the reference's loop on real numbers. -/

@[expose] public section

noncomputable section

namespace Cert.Proof

open Idealize.ShloMosaic Cert.ReferenceIdeal Cert.ReferenceIdeal.Gen Cert.ReferenceIdeal.Step
open scoped BigOperators

/-! ## Words -/

theorem select_prop {α : Type} (p : Prop) [Decidable p] (x y : α) :
    Scalar.select (if p then 1#1 else 0#1) x y = if p then x else y := by
  split <;> rfl

theorem rem_tab : ∀ n : Fin 1024, IntOp.remsi ArithUnit.host (BitVec.ofNat 32 n) 64#32 = BitVec.ofNat 32 (n.val % 64) := by
  decide +kernel

theorem rem_word (n : ℕ) (hn : n < 1024) : IntOp.remsi ArithUnit.host (BitVec.ofNat 32 n) 64#32 = BitVec.ofNat 32 (n % 64) :=
  rem_tab ⟨n, hn⟩

theorem zero_tab : ∀ r : Fin 64, IntOp.cmpi CmpIPredicate.eq (BitVec.ofNat 32 r) 0#32 = if r.val = 0 then 1#1 else 0#1 := by
  decide +kernel

theorem zero_word (n : ℕ) : IntOp.cmpi CmpIPredicate.eq (BitVec.ofNat 32 (n % 64)) 0#32 = if n % 64 = 0 then 1#1 else 0#1 :=
  zero_tab ⟨n % 64, Nat.mod_lt _ (by norm_num)⟩

theorem win_tab : ∀ (t : Fin 16) (r : Fin 64), IntOp.cmpi CmpIPredicate.sge
    (IntOp.addi (BitVec.ofNat 32 t) (BitVec.ofNat 32 r)) 15#32 = if 15 ≤ t.val + r.val then 1#1 else 0#1 := by
  decide +kernel

theorem win_word (t : Fin 16) (n : ℕ) : IntOp.cmpi CmpIPredicate.sge
    (IntOp.addi (BitVec.ofNat 32 t) (BitVec.ofNat 32 (n % 64))) 15#32 = if 15 ≤ t.val + n % 64 then 1#1 else 0#1 :=
  win_tab t ⟨n % 64, Nat.mod_lt _ (by norm_num)⟩

theorem eq_word (t n : ℕ) (ht : t < 1024) (hn : n < 1024) :
    IntOp.cmpi CmpIPredicate.eq (BitVec.ofNat 32 t) (BitVec.ofNat 32 n) = if t = n then 1#1 else 0#1 := by
  have e : (BitVec.ofNat 32 t = BitVec.ofNat 32 n) ↔ t = n := by
    constructor
    · intro h
      have h' := congrArg BitVec.toNat h
      simp only [BitVec.toNat_ofNat] at h'
      omega
    · rintro rfl; rfl
  by_cases h : t = n
  · subst h; simp [IntOp.cmpi]
  · have h2 : (BitVec.ofNat 32 t == BitVec.ofNat 32 n) = false := beq_eq_false_iff_ne.mpr (mt e.1 h)
    rw [if_neg h]
    show BitVec.ofBool (BitVec.ofNat 32 t == BitVec.ofNat 32 n) = _
    rw [h2]; rfl

/-! ## One trip -/

variable {n : ℕ} {s : State Ideal}

/-- The memory the chunk's errors are taken against. -/
theorem b6_T (hn : n < 1024) (m0 m : Fin 2 → Fin 8 → Mat) (h9 : s.main_v176_9 = T4 (φ := .f32) m0) (h10 : s.main_v176_10 = T4 (φ := .f32) m) :
    b6 n s = T4 (φ := .f32) fun b h => if n % 64 = 0 then m b h else m0 b h := by
  refine ext4 fun b h t d => ?_
  pointwise [b6, b5, b4, b3, b2, h9, h10, T4_ix]
  rw [rem_word n hn, zero_word, select_prop]
  split_ifs <;> rfl

/-- The window's keys. -/
theorem b16_T (hn : n < 1024) (f : Fin 2 → Fin 8 → ℕ → Fin 64 → ℝ)
    (hf : s.main_v176_0 = T4 (φ := .f32) fun b h (t : Fin 1039) d => f b h t d) :
    b16 n s = T4 (φ := .f32) fun b h (j : Fin 16) d => f b h (n + j) d := by
  refine ext4 fun b h t d => ?_
  have hoff : S2x8x1039x64.Slices ![0, 0, n, 0] S2x8x16x64 := ⟨rfl, fun a => by
    fin_cases a <;> simp [Shape.size] <;> omega⟩
  unfold b16
  rw [Host.dynamicSlice_eq_extractStridedSlice _ _ _ ![0, 0, n, 0] _ hoff]
  · pointwise [hf, T4_ix]
    try simp only [zero_add, Nat.add_comm]
  · intro a
    fin_cases a
    · rfl
    · rfl
    · show BitVec.toInt (select _ _ _ _) = _
      exact toInt_wrap_ofNat n (by omega)
    · rfl

/-- The window's values. -/
theorem b26_T (hn : n < 1024) (f : Fin 2 → Fin 8 → ℕ → Fin 64 → ℝ)
    (hf : s.main_v176_1 = T4 (φ := .f32) fun b h (t : Fin 1039) d => f b h t d) :
    b26 n s = T4 (φ := .f32) fun b h (j : Fin 16) d => f b h (n + j) d := by
  refine ext4 fun b h t d => ?_
  have hoff : S2x8x1039x64.Slices ![0, 0, n, 0] S2x8x16x64 := ⟨rfl, fun a => by
    fin_cases a <;> simp [Shape.size] <;> omega⟩
  unfold b26
  rw [Host.dynamicSlice_eq_extractStridedSlice _ _ _ ![0, 0, n, 0] _ hoff]
  · pointwise [hf, T4_ix]
    try simp only [zero_add, Nat.add_comm]
  · intro a
    fin_cases a
    · rfl
    · rfl
    · show BitVec.toInt (select _ _ _ _) = _
      exact toInt_wrap_ofNat n (by omega)
    · rfl

/-- The token's query. -/
theorem b165_T (hn : n < 1024) (f : Fin 2 → Fin 8 → ℕ → Fin 64 → ℝ)
    (hf : s.main_v176_6 = T4 (φ := .f32) fun b h (t : Fin 1024) d => f b h t d) :
    b165 n s = T4 (φ := .f32) fun b h (j : Fin 1) d => f b h (n + j) d := by
  refine ext4 fun b h t d => ?_
  have hoff : S2x8x1024x64.Slices ![0, 0, n, 0] S2x8x1x64 := ⟨rfl, fun a => by
    fin_cases a <;> simp [Shape.size] <;> omega⟩
  unfold b165
  rw [Host.dynamicSlice_eq_extractStridedSlice _ _ _ ![0, 0, n, 0] _ hoff]
  · pointwise [hf, T4_ix]
    try simp only [zero_add, Nat.add_comm]
  · intro a
    fin_cases a
    · rfl
    · rfl
    · show BitVec.toInt (select _ _ _ _) = _
      exact toInt_wrap_ofNat n (by omega)
    · rfl

/-- The window's weights. -/
theorem b35_T (hn : n < 1024) (f : Fin 2 → Fin 8 → ℕ → ℝ)
    (hf : s.main_v176_2 = T3 (φ := .f32) fun b h (t : Fin 1039) => f b h t) :
    b35 n s = T3 (φ := .f32) fun b h (j : Fin 16) => f b h (n + j) := by
  refine ext3 fun b h t => ?_
  have hoff : S2x8x1039.Slices ![0, 0, n] S2x8x16 := ⟨rfl, fun a => by
    fin_cases a <;> simp [Shape.size] <;> omega⟩
  unfold b35
  rw [Host.dynamicSlice_eq_extractStridedSlice _ _ _ ![0, 0, n] _ hoff]
  · pointwise [hf, T3_ix]
    try simp only [zero_add, Nat.add_comm]
  · intro a
    fin_cases a
    · rfl
    · rfl
    · show BitVec.toInt (select _ _ _ _) = _
      exact toInt_wrap_ofNat n (by omega)

/-- The token's momentum gate. -/
theorem b65_T (hn : n < 1024) (f : Fin 2 → Fin 8 → ℕ → ℝ)
    (hf : s.main_v176_3 = T3 (φ := .f32) fun b h (t : Fin 1024) => f b h t) :
    b65 n s = T3 (φ := .f32) fun b h (j : Fin 1) => f b h (n + j) := by
  refine ext3 fun b h t => ?_
  have hoff : S2x8x1024.Slices ![0, 0, n] S2x8x1 := ⟨rfl, fun a => by
    fin_cases a <;> simp [Shape.size] <;> omega⟩
  unfold b65
  rw [Host.dynamicSlice_eq_extractStridedSlice _ _ _ ![0, 0, n] _ hoff]
  · pointwise [hf, T3_ix]
    try simp only [zero_add, Nat.add_comm]
  · intro a
    fin_cases a
    · rfl
    · rfl
    · show BitVec.toInt (select _ _ _ _) = _
      exact toInt_wrap_ofNat n (by omega)

/-- The token's step size. -/
theorem b77_T (hn : n < 1024) (f : Fin 2 → Fin 8 → ℕ → ℝ)
    (hf : s.main_v176_4 = T3 (φ := .f32) fun b h (t : Fin 1024) => f b h t) :
    b77 n s = T3 (φ := .f32) fun b h (j : Fin 1) => f b h (n + j) := by
  refine ext3 fun b h t => ?_
  have hoff : S2x8x1024.Slices ![0, 0, n] S2x8x1 := ⟨rfl, fun a => by
    fin_cases a <;> simp [Shape.size] <;> omega⟩
  unfold b77
  rw [Host.dynamicSlice_eq_extractStridedSlice _ _ _ ![0, 0, n] _ hoff]
  · pointwise [hf, T3_ix]
    try simp only [zero_add, Nat.add_comm]
  · intro a
    fin_cases a
    · rfl
    · rfl
    · show BitVec.toInt (select _ _ _ _) = _
      exact toInt_wrap_ofNat n (by omega)

/-- The token's forgetting gate. -/
theorem b90_T (hn : n < 1024) (f : Fin 2 → Fin 8 → ℕ → ℝ)
    (hf : s.main_v176_5 = T3 (φ := .f32) fun b h (t : Fin 1024) => f b h t) :
    b90 n s = T3 (φ := .f32) fun b h (j : Fin 1) => f b h (n + j) := by
  refine ext3 fun b h t => ?_
  have hoff : S2x8x1024.Slices ![0, 0, n] S2x8x1 := ⟨rfl, fun a => by
    fin_cases a <;> simp [Shape.size] <;> omega⟩
  unfold b90
  rw [Host.dynamicSlice_eq_extractStridedSlice _ _ _ ![0, 0, n] _ hoff]
  · pointwise [hf, T3_ix]
    try simp only [zero_add, Nat.add_comm]
  · intro a
    fin_cases a
    · rfl
    · rfl
    · show BitVec.toInt (select _ _ _ _) = _
      exact toInt_wrap_ofNat n (by omega)

/-- The window's weights, zero before the chunk's start. -/
theorem b47_T (hn : n < 1024) (f : Fin 2 → Fin 8 → ℕ → ℝ) (hf : b35 n s = T3 (φ := .f32) fun b h (j : Fin 16) => f b h (n + j)) :
    b47 n s = T3 (φ := .f32) fun b h (j : Fin 16) => if 15 ≤ j.val + n % 64 then f b h (n + j) else 0 := by
  refine ext3 fun b h t => ?_
  pointwise [b47, b46, b45, b44, b43, b42, b41, b40, b39, b38, b37, b36, b3, b2, hf, T3_ix]
  rw [rem_word n hn, win_word, select_prop]
  split_ifs <;> rfl

/-- The window's gradient. -/
theorem b56_T (g : Fin 2 → Fin 8 → Fin 16 → ℝ) (k v : Fin 2 → Fin 8 → Fin 16 → Fin 64 → ℝ) (m : Fin 2 → Fin 8 → Mat)
    (h47 : b47 n s = T3 (φ := .f32) g) (h16 : b16 n s = T4 (φ := .f32) k) (h26 : b26 n s = T4 (φ := .f32) v)
    (h6 : b6 n s = T4 (φ := .f32) m) :
    b56 n s = T4 (φ := .f32) fun b h d e => ∑ j, 2 * g b h j * ((∑ i, k b h j i * m b h d i) - v b h j d) * k b h j e := by
  refine ext4 fun b h d e => ?_
  pointwise [b56, b55, b54, b53, b52, b51, b50, b49, b48, h47, h16, h26, h6, T3_ix, T4_ix]
  simp only [bits_two, mul_coe, coe_sum, sub_coe]

/-- The momentum after the token. -/
theorem b81_T (th et : Fin 2 → Fin 8 → ℝ) (st g : Fin 2 → Fin 8 → Mat)
    (h65 : b65 n s = T3 (φ := .f32) fun b h (_ : Fin 1) => th b h) (h77 : b77 n s = T3 (φ := .f32) fun b h (_ : Fin 1) => et b h)
    (h11 : s.main_v176_11 = T4 (φ := .f32) st) (h56 : b56 n s = T4 (φ := .f32) g) :
    b81 n s = T4 (φ := .f32) fun b h d e => th b h * st b h d e - et b h * g b h d e := by
  refine ext4 fun b h d e => ?_
  pointwise [b81, b80, b79, b78, b68, b67, b66, h65, h77, h11, h56, T3_ix, T4_ix]
  simp only [mul_coe, sub_coe]

/-- The momentum divided by its norm. -/
theorem b109_T (st : Fin 2 → Fin 8 → Mat) (h81 : b81 n s = T4 (φ := .f32) st) :
    b109 n s = T4 (φ := .f32) fun b h => nrm (st b h) := by
  refine ext4 fun b h d e => ?_
  pointwise [b109, b108, b107, b106, b105, b104, b103, b102, b101, b100, b99, b98, b97, b96, b95, b94, h81, T4_ix]
  have h0 : 0 ≤ (∑ e, ∑ d, st b h e d * st b h e d) + lit 0x2B8CBCCC#32 := add_nonneg (sumsq_nonneg _) (le_of_lt e12_pos)
  simp only [bits_e12, bits_101, bits_e6, mul_coe, coe_sum, add_coe]
  rw [sqrt_coe _ h0, mul_coe, add_coe]
  exact div_coe _ _ (ne_of_gt (nrmDen_pos (st b h)))

/-- The orthogonalisation's first step: the product with the transpose. -/
theorem b111_T (x : Fin 2 → Fin 8 → Mat) (hx : b109 n s = T4 (φ := .f32) x) :
    b111 n s = T4 (φ := .f32) fun b h => rgram (x b h) := by
  refine ext4 fun b h d e => ?_
  pointwise [b111, b110, hx, T4_ix]
  simp only [mul_coe, coe_sum, rgram]

/-- The orthogonalisation's first step: that product squared. -/
theorem b115_T (g : Fin 2 → Fin 8 → Mat) (hg : b111 n s = T4 (φ := .f32) g) :
    b115 n s = T4 (φ := .f32) fun b h => mm (g b h) (g b h) := by
  refine ext4 fun b h d e => ?_
  pointwise [b115, hg, T4_ix]
  simp only [mul_coe, coe_sum, mm]

/-- The orthogonalisation's first step: the two together. -/
theorem b119_T (g g2 : Fin 2 → Fin 8 → Mat) (hg : b111 n s = T4 (φ := .f32) g) (hg2 : b115 n s = T4 (φ := .f32) g2) :
    b119 n s = T4 (φ := .f32) fun b h d e => lit 0xC1B3DDC9#32 * g b h d e + lit 0x417E0F71#32 * g2 b h d e := by
  refine ext4 fun b h d e => ?_
  pointwise [b119, b118, b117, b116, b114, b113, b112, hg, hg2, T4_ix]
  simp only [bits_b1, bits_c1, mul_coe, add_coe]

/-- The orthogonalisation's first step. -/
theorem b124_T (x : Fin 2 → Fin 8 → Mat) (hx : b109 n s = T4 (φ := .f32) x) :
    b124 n s = T4 (φ := .f32) fun b h => rns (lit 0x4102813F#32) (lit 0xC1B3DDC9#32) (lit 0x417E0F71#32) (x b h) := by
  have hg := b111_T x hx
  have hs := b119_T _ _ hg (b115_T _ hg)
  refine ext4 fun b h d e => ?_
  pointwise [b124, b123, b122, b121, b120, hx, hs, T4_ix]
  simp only [bits_a1, mul_coe, coe_sum, add_coe, rns]

/-- The orthogonalisation's second step: the product with the transpose. -/
theorem b126_T (x : Fin 2 → Fin 8 → Mat) (hx : b124 n s = T4 (φ := .f32) x) :
    b126 n s = T4 (φ := .f32) fun b h => rgram (x b h) := by
  refine ext4 fun b h d e => ?_
  pointwise [b126, b125, hx, T4_ix]
  simp only [mul_coe, coe_sum, rgram]

/-- The orthogonalisation's second step: that product squared. -/
theorem b130_T (g : Fin 2 → Fin 8 → Mat) (hg : b126 n s = T4 (φ := .f32) g) :
    b130 n s = T4 (φ := .f32) fun b h => mm (g b h) (g b h) := by
  refine ext4 fun b h d e => ?_
  pointwise [b130, hg, T4_ix]
  simp only [mul_coe, coe_sum, mm]

/-- The orthogonalisation's second step: the two together. -/
theorem b134_T (g g2 : Fin 2 → Fin 8 → Mat) (hg : b126 n s = T4 (φ := .f32) g) (hg2 : b130 n s = T4 (φ := .f32) g2) :
    b134 n s = T4 (φ := .f32) fun b h d e => lit 0xC033C54E#32 * g b h d e + lit 0x3F00012B#32 * g2 b h d e := by
  refine ext4 fun b h d e => ?_
  pointwise [b134, b133, b132, b131, b129, b128, b127, hg, hg2, T4_ix]
  simp only [bits_b2, bits_c2, mul_coe, add_coe]

/-- The orthogonalisation's second step. -/
theorem b139_T (x : Fin 2 → Fin 8 → Mat) (hx : b124 n s = T4 (φ := .f32) x) :
    b139 n s = T4 (φ := .f32) fun b h => rns (lit 0x40815FAF#32) (lit 0xC033C54E#32) (lit 0x3F00012B#32) (x b h) := by
  have hg := b126_T x hx
  have hs := b134_T _ _ hg (b130_T _ hg)
  refine ext4 fun b h d e => ?_
  pointwise [b139, b138, b137, b136, b135, hx, hs, T4_ix]
  simp only [bits_a2, mul_coe, coe_sum, add_coe, rns]

/-- The orthogonalisation's third step: the product with the transpose. -/
theorem b141_T (x : Fin 2 → Fin 8 → Mat) (hx : b139 n s = T4 (φ := .f32) x) :
    b141 n s = T4 (φ := .f32) fun b h => rgram (x b h) := by
  refine ext4 fun b h d e => ?_
  pointwise [b141, b140, hx, T4_ix]
  simp only [mul_coe, coe_sum, rgram]

/-- The orthogonalisation's third step: that product squared. -/
theorem b145_T (g : Fin 2 → Fin 8 → Mat) (hg : b141 n s = T4 (φ := .f32) g) :
    b145 n s = T4 (φ := .f32) fun b h => mm (g b h) (g b h) := by
  refine ext4 fun b h d e => ?_
  pointwise [b145, hg, T4_ix]
  simp only [mul_coe, coe_sum, mm]

/-- The orthogonalisation's third step: the two together. -/
theorem b149_T (g g2 : Fin 2 → Fin 8 → Mat) (hg : b141 n s = T4 (φ := .f32) g) (hg2 : b145 n s = T4 (φ := .f32) g2) :
    b149 n s = T4 (φ := .f32) fun b h d e => lit 0xC0317061#32 * g b h d e + lit 0x3F018D77#32 * g2 b h d e := by
  refine ext4 fun b h d e => ?_
  pointwise [b149, b148, b147, b146, b144, b143, b142, hg, hg2, T4_ix]
  simp only [bits_b3, bits_c3, mul_coe, add_coe]

/-- The orthogonalisation's third step. -/
theorem b154_T (x : Fin 2 → Fin 8 → Mat) (hx : b139 n s = T4 (φ := .f32) x) :
    b154 n s = T4 (φ := .f32) fun b h => rns (lit 0x40791116#32) (lit 0xC0317061#32) (lit 0x3F018D77#32) (x b h) := by
  have hg := b141_T x hx
  have hs := b149_T _ _ hg (b145_T _ hg)
  refine ext4 fun b h d e => ?_
  pointwise [b154, b153, b152, b151, b150, hx, hs, T4_ix]
  simp only [bits_a3, mul_coe, coe_sum, add_coe, rns]

/-- The memory after the token. -/
theorem b155_T (al : Fin 2 → Fin 8 → ℝ) (m x : Fin 2 → Fin 8 → Mat)
    (h90 : b90 n s = T3 (φ := .f32) fun b h (_ : Fin 1) => al b h) (h10 : s.main_v176_10 = T4 (φ := .f32) m)
    (h154 : b154 n s = T4 (φ := .f32) x) :
    b155 n s = T4 (φ := .f32) fun b h d e => al b h * m b h d e + x b h d e := by
  refine ext4 fun b h d e => ?_
  pointwise [b155, b93, b92, b91, h90, h10, h154, T3_ix, T4_ix]
  simp only [mul_coe, add_coe]

/-- The memory's answer to the token's query. -/
theorem b166_T (q : Fin 2 → Fin 8 → Fin 64 → ℝ) (m : Fin 2 → Fin 8 → Mat)
    (h165 : b165 n s = T4 (φ := .f32) fun b h (_ : Fin 1) d => q b h d) (h155 : b155 n s = T4 (φ := .f32) m) :
    b166 n s = T4 (φ := .f32) fun b h (_ : Fin 1) d => ∑ e, q b h e * m b h d e := by
  refine ext4 fun b h t d => ?_
  pointwise [b166, h165, h155, T4_ix]
  simp only [mul_coe, coe_sum]

/-- The answers with the token's row written. -/
theorem b174_T (hn : n < 1024) (f : Fin 2 → Fin 8 → ℕ → Fin 64 → ℝ) (y : Fin 2 → Fin 8 → Fin 64 → ℝ)
    (h12 : s.main_v176_12 = T4 (φ := .f32) fun b h (t : Fin 1024) d => f b h t d)
    (h166 : b166 n s = T4 (φ := .f32) fun b h (_ : Fin 1) d => y b h d) :
    b174 n s = T4 (φ := .f32) fun b h (t : Fin 1024) d => if t.val = n then y b h d else f b h t d := by
  refine ext4 fun b h t d => ?_
  pointwise [b174, b173, b172, b171, b170, b169, b168, b167, h12, h166, T4_ix]
  show Scalar.select (IntOp.cmpi CmpIPredicate.eq (BitVec.ofNat 32 t.val) (BitVec.ofNat 32 n)) _ _ = _
  rw [eq_word t.val n t.isLt hn, select_prop]
  split_ifs <;> rfl

/-! ## All trips -/

/-- One head's keys. -/
def Args.kh (a : Args) (b : Fin 2) (h : Fin 8) (t : ℕ) (d : Fin 64) : ℝ := a.kf b t (col h d)
/-- One head's values. -/
def Args.vh (a : Args) (b : Fin 2) (h : Fin 8) (t : ℕ) (d : Fin 64) : ℝ := a.vf b t (col h d)
/-- One head's queries. -/
def Args.qh (a : Args) (b : Fin 2) (h : Fin 8) (t : ℕ) (d : Fin 64) : ℝ := a.qf b t (col h d)
/-- One head's states after `n` tokens. -/
def Args.st (a : Args) (b : Fin 2) (h : Fin 8) (n : ℕ) : Mat × Mat × Mat := tok (a.gf b h) (a.kh b h) (a.vh b h) n
/-- One head's answers. -/
def Args.ans (a : Args) (b : Fin 2) (h : Fin 8) (t : ℕ) (d : Fin 64) : ℝ := tokY (a.gf b h) (a.kh b h) (a.vh b h) (a.qh b h) t d

/-- The loop's state holds the rule's values after `n` tokens. -/
structure SHolds (a : Args) (n : ℕ) (s : State Ideal) : Prop where
  m0 : s.main_v176_9 = T4 (φ := .f32) fun b h => (a.st b h n).1
  m : s.main_v176_10 = T4 (φ := .f32) fun b h => (a.st b h n).2.1
  st : s.main_v176_11 = T4 (φ := .f32) fun b h => (a.st b h n).2.2
  y : s.main_v176_12 = T4 (φ := .f32) fun b h (t : Fin 1024) d => if t.val < n then a.ans b h t d else 0
  k : s.main_v176_0 = T4 (φ := .f32) fun b h (t : Fin 1039) d => pad15 (a.kh b h) t d
  v : s.main_v176_1 = T4 (φ := .f32) fun b h (t : Fin 1039) d => pad15 (a.vh b h) t d
  g : s.main_v176_2 = T3 (φ := .f32) fun b h (t : Fin 1039) => gam15 (a.gf b h) t
  th : s.main_v176_3 = T3 (φ := .f32) fun b h (t : Fin 1024) => sg (a.gf b h t 2)
  et : s.main_v176_4 = T3 (φ := .f32) fun b h (t : Fin 1024) => lit 0x3DCCCCCD#32 * sg (a.gf b h t 1)
  al : s.main_v176_5 = T3 (φ := .f32) fun b h (t : Fin 1024) => sg (a.gf b h t 0)
  q : s.main_v176_6 = T4 (φ := .f32) fun b h (t : Fin 1024) d => a.qh b h t d

theorem T4_congr {p q r w : ℕ} {f g : Fin p → Fin q → Fin r → Fin w → ℝ} (h : ∀ b c d e, f b c d e = g b c d e) :
    T4 (φ := .f32) f = T4 (φ := .f32) g := by
  have : f = g := by funext b c d e; exact h b c d e
  rw [this]

/-- One trip goes from the values after `n` tokens to those after `n + 1`. -/
theorem step_holds {a : Args} (hn : n < 1024) (H : SHolds a n s) : SHolds a (n + 1) (step n s) := by
  have h6 := b6_T hn _ _ H.m0 H.m
  have h16 := b16_T hn (fun b h t d => pad15 (a.kh b h) t d) H.k
  have h26 := b26_T hn (fun b h t d => pad15 (a.vh b h) t d) H.v
  have h35 := b35_T hn (fun b h t => gam15 (a.gf b h) t) H.g
  have h47 := b47_T hn (fun b h t => gam15 (a.gf b h) t) h35
  have h56 := b56_T _ _ _ _ h47 h16 h26 h6
  have h65 : b65 n s = T3 (φ := .f32) fun b h (_ : Fin 1) => sg (a.gf b h n 2) := by
    rw [b65_T hn (fun b h t => sg (a.gf b h t 2)) H.th]
    refine ext3 fun b h j => ?_
    rw [T3_ix, T3_ix, Fin.val_eq_zero j, Nat.add_zero]
  have h77 : b77 n s = T3 (φ := .f32) fun b h (_ : Fin 1) => lit 0x3DCCCCCD#32 * sg (a.gf b h n 1) := by
    rw [b77_T hn (fun b h t => lit 0x3DCCCCCD#32 * sg (a.gf b h t 1)) H.et]
    refine ext3 fun b h j => ?_
    rw [T3_ix, T3_ix, Fin.val_eq_zero j, Nat.add_zero]
  have h90 : b90 n s = T3 (φ := .f32) fun b h (_ : Fin 1) => sg (a.gf b h n 0) := by
    rw [b90_T hn (fun b h t => sg (a.gf b h t 0)) H.al]
    refine ext3 fun b h j => ?_
    rw [T3_ix, T3_ix, Fin.val_eq_zero j, Nat.add_zero]
  have h165 : b165 n s = T4 (φ := .f32) fun b h (_ : Fin 1) d => a.qh b h n d := by
    rw [b165_T hn (fun b h t d => a.qh b h t d) H.q]
    refine ext4 fun b h j d => ?_
    rw [T4_ix, T4_ix, Fin.val_eq_zero j, Nat.add_zero]
  have h81 := b81_T _ _ _ _ h65 h77 H.st h56
  have h154 := b154_T _ (b139_T _ (b124_T _ (b109_T _ h81)))
  have h155 := b155_T _ _ _ h90 H.m h154
  have hM : b155 n s = T4 (φ := .f32) fun b h => (a.st b h (n + 1)).2.1 := h155.trans (T4_congr fun b h d e => rfl)
  have h166 := b166_T _ _ h165 hM
  refine ⟨?_, ?_, ?_, ?_, H.k, H.v, H.g, H.th, H.et, H.al, H.q⟩
  · rw [step_main_v176_9, h6]; rfl
  · rw [step_main_v176_10, hM]
  · rw [step_main_v176_11, h81]; rfl
  · rw [step_main_v176_12, b174_T hn (fun b h t d => if t < n then a.ans b h t d else 0) (fun b h d => a.ans b h n d) H.y h166]
    refine T4_congr fun b h t d => ?_
    by_cases e : t.val = n
    · rw [if_pos e, if_pos (by omega), e]
    · rw [if_neg e]
      by_cases l : t.val < n
      · rw [if_pos l, if_pos (by omega)]
      · rw [if_neg l, if_neg (by omega)]

/-- The loop's first state. -/
theorem init_holds (a : Args) : SHolds a 0 (onArgs a init) := by
  refine ⟨?_, ?_, ?_, ?_, ref_kpad a, ref_vpad a, ref_gpad a, ref_theta a, ref_eta a, ref_alpha a, ref_q a⟩
  · refine ext4 fun b h d e => ?_
    show K_main_v174 (F := Ideal) (ix4 b h d e) = _
    pointwise [K_main_v174, K_main_cst_16, T4_ix]
    rfl
  · refine ext4 fun b h d e => ?_
    show K_main_v174 (F := Ideal) (ix4 b h d e) = _
    pointwise [K_main_v174, K_main_cst_16, T4_ix]
    rfl
  · refine ext4 fun b h d e => ?_
    show K_main_v174 (F := Ideal) (ix4 b h d e) = _
    pointwise [K_main_v174, K_main_cst_16, T4_ix]
    rfl
  · refine ext4 fun b h d e => ?_
    show K_main_v175 (F := Ideal) (ix4 b h d e) = _
    pointwise [K_main_v175, K_main_cst_17, T4_ix]
    rfl

/-- The states one after another. -/
def iter (a : Args) : ℕ → State Ideal
  | 0 => onArgs a init
  | n + 1 => step n (iter a n)

/-- After each token the loop's state holds the rule's values. -/
theorem iter_holds (a : Args) (n : ℕ) : n ≤ 1024 → SHolds a n (iter a n) := by
  induction n with
  | zero => intro _; exact init_holds a
  | succ n ih => intro h; exact step_holds (by omega) (ih (by omega))

end Cert.Proof
end
-- ==== Proof.ROut.lean ====
module

public import proofs.«01_k».proof.Proof.RStep
public import Idealize.ShloMosaic.Lib.DynamicIndex

/-! What the reference computes after its loop, on real numbers. -/

@[expose] public section

noncomputable section

namespace Cert.Proof

open Idealize.ShloMosaic Cert.ReferenceIdeal Cert.ReferenceIdeal.Gen Cert.ReferenceIdeal.Step
open scoped BigOperators

/-- A reciprocal square root of a mean square plus the constant. -/
theorem ms_pos (y : Fin 64 → ℝ) : 0 < (∑ j, y j * y j) / lit 0x42800000#32 + lit 0x358637BD#32 :=
  add_pos_of_nonneg_of_pos (div_nonneg (Finset.sum_nonneg fun _ _ => mul_self_nonneg _) (le_of_lt l64_pos)) e6_pos

/-- A head's row: the memory's answer, normalised, scaled and gated. -/
theorem head_row (a : Args) (b : Fin 2) (h : Fin 8) (t : ℕ) (d : Fin 64) :
    a.head b h t d = a.ans b h t d * (Real.sqrt ((∑ j, a.ans b h t j * a.ans b h t j) / lit 0x42800000#32 + lit 0x358637BD#32))⁻¹
      * (1 + a.ln h d) * sg (∑ j, a.x b t j * a.rw h j) := by
  unfold Args.head
  rw [outY_tok, gf_4]
  rfl

/-- One term of the output projection, read off real numbers. -/
theorem term_eq (u S g r w : ℝ) (hS : 0 < S / lit 0x42800000#32 + lit 0x358637BD#32) :
    (u : EReal) * Ideal.rsqrt (Ideal.div (S : EReal) (lit 0x42800000#32 : ℝ) + (lit 0x358637BD#32 : ℝ)) * (1 + (g : EReal))
        * Ideal.div 1 (1 + Ideal.exp (-(r : EReal))) * (w : EReal)
      = ((u * (Real.sqrt (S / lit 0x42800000#32 + lit 0x358637BD#32))⁻¹ * (1 + g) * sg r * w : ℝ) : EReal) := by
  rw [div_coe _ _ (ne_of_gt l64_pos), add_coe, rsqrt_coe _ hS, neg_coe, exp_coe]
  simp only [one_coe, add_coe, sg_coe', mul_coe]

/-- The output projection, term by term. -/
theorem out_sum (a : Args) (b : Fin 2) (t : ℕ) (i : Fin 1024) :
    ((a.out b t i : ℝ) : EReal) = ∑ x : Fin 512, ((a.head b ⟨x.val / 64, by omega⟩ t ⟨x.val % 64, by omega⟩ * a.wo i x : ℝ) : EReal) := by
  rw [coe_sum]
  rfl

set_option maxHeartbeats 1000000 in
/-- The reference's result. -/
theorem ref_out (a : Args) (s : State Ideal) (hy : s.main_v176_12 = T4 (φ := .f32) fun b h (t : Fin 1024) d => a.ans b h t d) :
    R_main_v208 s (T3 (φ := .f32) fun b (t : Fin 1024) i => a.x b t i) (T2 (φ := .f32) a.wo) (T2 (φ := .f32) a.ln) (T2 (φ := .f32) a.rw)
      = T3 (φ := .f32) fun b (t : Fin 1024) i => a.out b t i := by
  refine ext3 fun b t i => ?_
  rw [T3_ix (φ := .f32), out_sum]
  pointwise [R_main_v208, hy, T4_ix, T3_ix, T2_ix]
  refine Finset.sum_congr rfl fun x _ => ?_
  simp only [bits_64, bits_e6, mul_coe, coe_sum]
  rw [head_row]
  exact term_eq _ _ _ _ _ (ms_pos _)

end Cert.Proof
end
-- ==== Proof.REnds.lean ====
module

public import proofs.«01_k».proof.Proof.ROut
public import proofs.«01_k».proof.Proof.Gen.ReferenceIdeal.StepRun

/-! The reference's run: from a memory of real arguments it ends with the layer's output, its arguments unchanged. -/

@[expose] public section

noncomputable section

namespace Cert.Proof

open Cert.ReferenceIdeal Cert.ReferenceIdeal.Gen Cert.ReferenceIdeal.Step
open Idealize.ShloMosaic Idealize.ShloMosaic.TcCoe Idealize.SL.Sem

/-- The memory `m` of device `c` holds the real arguments `a`. -/
structure RHolds (m : (ℓ : Loc nD τ sig) → Buf (Elt Ideal) ℓ) (c : Dev nD) (a : Args) : Prop where
  h0 : m ((c.tc : Thread nD τ).loc main_arg0) = T3 (φ := .f32) fun b (t : Fin 1024) i => a.x b t i
  h1 : m ((c.tc : Thread nD τ).loc main_arg1) = T2 (φ := .f32) a.wq
  h2 : m ((c.tc : Thread nD τ).loc main_arg2) = T2 (φ := .f32) a.wk
  h3 : m ((c.tc : Thread nD τ).loc main_arg3) = T2 (φ := .f32) a.wv
  h4 : m ((c.tc : Thread nD τ).loc main_arg4) = T2 (φ := .f32) a.wo
  h5 : m ((c.tc : Thread nD τ).loc main_arg5) = T3 (φ := .f32) fun i (_ : Fin 1) j => a.cq i j
  h6 : m ((c.tc : Thread nD τ).loc main_arg6) = T1 (φ := .f32) a.bq
  h7 : m ((c.tc : Thread nD τ).loc main_arg7) = T3 (φ := .f32) fun i (_ : Fin 1) j => a.ck i j
  h8 : m ((c.tc : Thread nD τ).loc main_arg8) = T1 (φ := .f32) a.bk
  h9 : m ((c.tc : Thread nD τ).loc main_arg9) = T3 (φ := .f32) fun i (_ : Fin 1) j => a.cv i j
  h10 : m ((c.tc : Thread nD τ).loc main_arg10) = T1 (φ := .f32) a.bv
  h11 : m ((c.tc : Thread nD τ).loc main_arg11) = T2 (φ := .f32) a.aw
  h12 : m ((c.tc : Thread nD τ).loc main_arg12) = T1 (φ := .f32) a.ab
  h13 : m ((c.tc : Thread nD τ).loc main_arg13) = T2 (φ := .f32) a.ew
  h14 : m ((c.tc : Thread nD τ).loc main_arg14) = T1 (φ := .f32) a.eb
  h15 : m ((c.tc : Thread nD τ).loc main_arg15) = T2 (φ := .f32) a.tw
  h16 : m ((c.tc : Thread nD τ).loc main_arg16) = T1 (φ := .f32) a.tb
  h17 : m ((c.tc : Thread nD τ).loc main_arg17) = T2 (φ := .f32) a.gw
  h18 : m ((c.tc : Thread nD τ).loc main_arg18) = T1 (φ := .f32) a.gb
  h19 : m ((c.tc : Thread nD τ).loc main_arg19) = T1 (φ := .f32) a.pc
  h20 : m ((c.tc : Thread nD τ).loc main_arg20) = T2 (φ := .f32) a.ln
  h21 : m ((c.tc : Thread nD τ).loc main_arg21) = T2 (φ := .f32) a.rw

/-- The loop's first state, from real arguments. -/
theorem first_state {m : (ℓ : Loc nD τ sig) → Buf (Elt Ideal) ℓ} {c : Dev nD} {a : Args} (H : RHolds m c a) :
    iter a 0 = Cert.ReferenceIdeal.StepRun.initState m c := by
  show onArgs a init = init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
  rw [H.h0, H.h1, H.h2, H.h3, H.h5, H.h6, H.h7, H.h8, H.h9, H.h10, H.h11, H.h12, H.h13, H.h14, H.h15, H.h16, H.h17, H.h18, H.h19]
  rfl

/-- The loop's last state holds every token's answer. -/
theorem last_state (a : Args) : (iter a 1024).main_v176_12 = T4 (φ := .f32) fun b h (t : Fin 1024) d => a.ans b h t d :=
  (iter_holds a 1024 le_rfl).y.trans (by simp only [Fin.is_lt, if_true])

/-- The result computed from the loop's last state. -/
theorem last_out {m : (ℓ : Loc nD τ sig) → Buf (Elt Ideal) ℓ} {c : Dev nD} {a : Args} (H : RHolds m c a) :
    R_main_v208 (iter a 1024) (m ((c.tc : Thread nD τ).loc main_arg0)) (m ((c.tc : Thread nD τ).loc main_arg4))
        (m ((c.tc : Thread nD τ).loc main_arg20)) (m ((c.tc : Thread nD τ).loc main_arg21))
      = T3 (φ := .f32) fun b (t : Fin 1024) i => a.out b t i := by
  rw [H.h0, H.h4, H.h20, H.h21]
  exact ref_out a _ (last_state a)

/-- The reference ends with the layer's output and unchanged arguments. -/
theorem reference_ends (m : (ℓ : Loc nD τ sig) → Buf (Elt Ideal) ℓ) (g : Dev nD → PrngReg) (a : Dev nD → Args)
    (H : ∀ c, RHolds m c (a c)) :
    θ_run (defs (F := Ideal)) (onTc (τ := τ) (main (F := Ideal))) ⟨m, fun _ => 0, g⟩ (fun r => ∀ c : Dev nD,
      r.2.mem ((c.tc : Thread nD τ).loc main_v208) = (T3 (φ := .f32) fun b (t : Fin 1024) i => (a c).out b t i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun _ h c => ⟨(h c).1.trans (last_out (H c)), (h c).2⟩)
    (Cert.ReferenceIdeal.StepRun.run_iter m g (fun c => iter (a c)) (fun c => first_state (H c)) (fun _ _ => rfl))

end Cert.Proof
end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.KEnds
public import proofs.«01_k».proof.Proof.REnds

/-! The claims of this directory: the programs run and leave their arguments alone, and from real arguments the kernel and
the reference end with equal results. -/

@[expose] public section

noncomputable section

namespace Cert.Proof

open Idealize.ShloMosaic Idealize.SL.Sem

/-- The reference runs, leaves its arguments unchanged and its semaphores at zero. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From equal, real arguments the kernel and the reference end with equal results. -/
theorem algebraic : Cert.algebraic_KernelIdeal_ReferenceIdeal_pre_all_finite (hPre_all_finite := pre_facts) := by
  intro m g m' g' P E
  have K := fun c => @holds_of_pre m c pre_facts g P
  refine ⟨fun c => T3 (φ := .f32) fun b (t : Fin 1024) i => (argsOf m c).out b t i, kernel_ends m g (argsOf m) K,
    reference_ends m' g' (argsOf m) fun c => ?_⟩
  obtain ⟨E0, E1, E2, E3, E4, E5, E6, E7, E8, E9, E10, E11, E12, E13, E14, E15, E16, E17, E18, E19, E20, E21⟩ := E c
  have K := K c
  exact ⟨E0.trans K.h0,
      E1.trans K.h1,
      E2.trans K.h2,
      E3.trans K.h3,
      E4.trans K.h4,
      E5.trans K.h5,
      E6.trans K.h6,
      E7.trans K.h7,
      E8.trans K.h8,
      E9.trans K.h9,
      E10.trans K.h10,
      E11.trans K.h11,
      E12.trans K.h12,
      E13.trans K.h13,
      E14.trans K.h14,
      E15.trans K.h15,
      E16.trans K.h16,
      E17.trans K.h17,
      E18.trans K.h18,
      E19.trans K.h19,
      E20.trans K.h20,
      E21.trans K.h21⟩

/-- Every claim. -/
theorem claim : Cert.Claim :=
  ⟨Cert.Kernel.Gen.facts, Cert.KernelIdeal.Gen.facts, Cert.ReferenceIdeal.Gen.facts, pre_facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof
end
